-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_ReferenceCtxIdeal (m : (ℓ : Loc Cert.ReferenceCtxIdeal.nD Cert.ReferenceCtxIdeal.τ Cert.ReferenceCtxIdeal.sig) → Buf (Elt Ideal) ℓ) : Prop :=
  True

def Pre_KernelAdaln (m : (ℓ : Loc Cert.KernelAdaln.nD Cert.KernelAdaln.τ Cert.KernelAdaln.sig) → Buf (Elt Bits) ℓ) : Prop :=
  True

def Pre_KernelAdalnIdeal (m : (ℓ : Loc Cert.KernelAdalnIdeal.nD Cert.KernelAdalnIdeal.τ Cert.KernelAdalnIdeal.sig) → Buf (Elt Ideal) ℓ) : Prop :=
  True

def Pre_ReferenceAdalnIdeal (m : (ℓ : Loc Cert.ReferenceAdalnIdeal.nD Cert.ReferenceAdalnIdeal.τ Cert.ReferenceAdalnIdeal.sig) → Buf (Elt Ideal) ℓ) : Prop :=
  True

def Pre_KernelFourier (m : (ℓ : Loc Cert.KernelFourier.nD Cert.KernelFourier.τ Cert.KernelFourier.sig) → Buf (Elt Bits) ℓ) : Prop :=
  True

def Pre_KernelFourierIdeal (m : (ℓ : Loc Cert.KernelFourierIdeal.nD Cert.KernelFourierIdeal.τ Cert.KernelFourierIdeal.sig) → Buf (Elt Ideal) ℓ) : Prop :=
  True

def Pre_ReferenceFourierIdeal (m : (ℓ : Loc Cert.ReferenceFourierIdeal.nD Cert.ReferenceFourierIdeal.τ Cert.ReferenceFourierIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3)
      ∧ r.2.mem ((c.tc : Thread Cert.KernelCtx.nD Cert.KernelCtx.τ).loc Cert.KernelCtx.main_arg4) = m ((c.tc : Thread Cert.KernelCtx.nD Cert.KernelCtx.τ).loc Cert.KernelCtx.main_arg4)
      ∧ r.2.mem ((c.tc : Thread Cert.KernelCtx.nD Cert.KernelCtx.τ).loc Cert.KernelCtx.main_arg5) = m ((c.tc : Thread Cert.KernelCtx.nD Cert.KernelCtx.τ).loc Cert.KernelCtx.main_arg5))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
      ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
      ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3)
      ∧ r.2.mem ((c.tc : Thread Cert.ReferenceCtxIdeal.nD Cert.ReferenceCtxIdeal.τ).loc Cert.ReferenceCtxIdeal.main_arg4) = m ((c.tc : Thread Cert.ReferenceCtxIdeal.nD Cert.ReferenceCtxIdeal.τ).loc Cert.ReferenceCtxIdeal.main_arg4)
      ∧ r.2.mem ((c.tc : Thread Cert.ReferenceCtxIdeal.nD Cert.ReferenceCtxIdeal.τ).loc Cert.ReferenceCtxIdeal.main_arg5) = m ((c.tc : Thread Cert.ReferenceCtxIdeal.nD Cert.ReferenceCtxIdeal.τ).loc Cert.ReferenceCtxIdeal.main_arg5))
      ∧ r.2.sem = fun _ => 0)

def quiescent_KernelAdaln [hKernelAdaln : Cert.KernelAdaln.Facts] : Prop :=
  ∀ (m : (ℓ : Loc Cert.KernelAdaln.nD Cert.KernelAdaln.τ Cert.KernelAdaln.sig) → Buf (Elt Bits) ℓ) (g : Dev Cert.KernelAdaln.nD → PrngReg), Pre_KernelAdaln m →
    θ_run (Cert.KernelAdaln.defs (F := Bits)) (onTc (τ := Cert.KernelAdaln.τ) (Cert.KernelAdaln.main (F := Bits))) ⟨m, fun _ => 0, g⟩ (fun r => (∀ c : Dev Cert.KernelAdaln.nD,
      r.2.mem ((c.tc : Thread Cert.KernelAdaln.nD Cert.KernelAdaln.τ).loc Cert.KernelAdaln.main_arg0) = m ((c.tc : Thread Cert.KernelAdaln.nD Cert.KernelAdaln.τ).loc Cert.KernelAdaln.main_arg0)
      ∧ r.2.mem ((c.tc : Thread Cert.KernelAdaln.nD Cert.KernelAdaln.τ).loc Cert.KernelAdaln.main_arg1) = m ((c.tc : Thread Cert.KernelAdaln.nD Cert.KernelAdaln.τ).loc Cert.KernelAdaln.main_arg1)
      ∧ r.2.mem ((c.tc : Thread Cert.KernelAdaln.nD Cert.KernelAdaln.τ).loc Cert.KernelAdaln.main_arg2) = m ((c.tc : Thread Cert.KernelAdaln.nD Cert.KernelAdaln.τ).loc Cert.KernelAdaln.main_arg2))
      ∧ r.2.sem = fun _ => 0)

def quiescent_KernelAdalnIdeal [hKernelAdalnIdeal : Cert.KernelAdalnIdeal.Facts] : Prop :=
  ∀ (m : (ℓ : Loc Cert.KernelAdalnIdeal.nD Cert.KernelAdalnIdeal.τ Cert.KernelAdalnIdeal.sig) → Buf (Elt Ideal) ℓ) (g : Dev Cert.KernelAdalnIdeal.nD → PrngReg), Pre_KernelAdalnIdeal m →
    θ_run (Cert.KernelAdalnIdeal.defs (F := Ideal)) (onTc (τ := Cert.KernelAdalnIdeal.τ) (Cert.KernelAdalnIdeal.main (F := Ideal))) ⟨m, fun _ => 0, g⟩ (fun r => (∀ c : Dev Cert.KernelAdalnIdeal.nD,
      r.2.mem ((c.tc : Thread Cert.KernelAdalnIdeal.nD Cert.KernelAdalnIdeal.τ).loc Cert.KernelAdalnIdeal.main_arg0) = m ((c.tc : Thread Cert.KernelAdalnIdeal.nD Cert.KernelAdalnIdeal.τ).loc Cert.KernelAdalnIdeal.main_arg0)
      ∧ r.2.mem ((c.tc : Thread Cert.KernelAdalnIdeal.nD Cert.KernelAdalnIdeal.τ).loc Cert.KernelAdalnIdeal.main_arg1) = m ((c.tc : Thread Cert.KernelAdalnIdeal.nD Cert.KernelAdalnIdeal.τ).loc Cert.KernelAdalnIdeal.main_arg1)
      ∧ r.2.mem ((c.tc : Thread Cert.KernelAdalnIdeal.nD Cert.KernelAdalnIdeal.τ).loc Cert.KernelAdalnIdeal.main_arg2) = m ((c.tc : Thread Cert.KernelAdalnIdeal.nD Cert.KernelAdalnIdeal.τ).loc Cert.KernelAdalnIdeal.main_arg2))
      ∧ r.2.sem = fun _ => 0)

def quiescent_ReferenceAdalnIdeal [hReferenceAdalnIdeal : Cert.ReferenceAdalnIdeal.Facts] : Prop :=
  ∀ (m : (ℓ : Loc Cert.ReferenceAdalnIdeal.nD Cert.ReferenceAdalnIdeal.τ Cert.ReferenceAdalnIdeal.sig) → Buf (Elt Ideal) ℓ) (g : Dev Cert.ReferenceAdalnIdeal.nD → PrngReg), Pre_ReferenceAdalnIdeal m →
    θ_run (Cert.ReferenceAdalnIdeal.defs (F := Ideal)) (onTc (τ := Cert.ReferenceAdalnIdeal.τ) (Cert.ReferenceAdalnIdeal.main (F := Ideal))) ⟨m, fun _ => 0, g⟩ (fun r => (∀ c : Dev Cert.ReferenceAdalnIdeal.nD,
      r.2.mem ((c.tc : Thread Cert.ReferenceAdalnIdeal.nD Cert.ReferenceAdalnIdeal.τ).loc Cert.ReferenceAdalnIdeal.main_arg0) = m ((c.tc : Thread Cert.ReferenceAdalnIdeal.nD Cert.ReferenceAdalnIdeal.τ).loc Cert.ReferenceAdalnIdeal.main_arg0)
      ∧ r.2.mem ((c.tc : Thread Cert.ReferenceAdalnIdeal.nD Cert.ReferenceAdalnIdeal.τ).loc Cert.ReferenceAdalnIdeal.main_arg1) = m ((c.tc : Thread Cert.ReferenceAdalnIdeal.nD Cert.ReferenceAdalnIdeal.τ).loc Cert.ReferenceAdalnIdeal.main_arg1)
      ∧ r.2.mem ((c.tc : Thread Cert.ReferenceAdalnIdeal.nD Cert.ReferenceAdalnIdeal.τ).loc Cert.ReferenceAdalnIdeal.main_arg2) = m ((c.tc : Thread Cert.ReferenceAdalnIdeal.nD Cert.ReferenceAdalnIdeal.τ).loc Cert.ReferenceAdalnIdeal.main_arg2))
      ∧ r.2.sem = fun _ => 0)

def quiescent_KernelFourier [hKernelFourier : Cert.KernelFourier.Facts] : Prop :=
  ∀ (m : (ℓ : Loc Cert.KernelFourier.nD Cert.KernelFourier.τ Cert.KernelFourier.sig) → Buf (Elt Bits) ℓ) (g : Dev Cert.KernelFourier.nD → PrngReg), Pre_KernelFourier m →
    θ_run (Cert.KernelFourier.defs (F := Bits)) (onTc (τ := Cert.KernelFourier.τ) (Cert.KernelFourier.main (F := Bits))) ⟨m, fun _ => 0, g⟩ (fun r => (∀ c : Dev Cert.KernelFourier.nD,
      r.2.mem ((c.tc : Thread Cert.KernelFourier.nD Cert.KernelFourier.τ).loc Cert.KernelFourier.main_arg0) = m ((c.tc : Thread Cert.KernelFourier.nD Cert.KernelFourier.τ).loc Cert.KernelFourier.main_arg0))
      ∧ r.2.sem = fun _ => 0)

def quiescent_KernelFourierIdeal [hKernelFourierIdeal : Cert.KernelFourierIdeal.Facts] : Prop :=
  ∀ (m : (ℓ : Loc Cert.KernelFourierIdeal.nD Cert.KernelFourierIdeal.τ Cert.KernelFourierIdeal.sig) → Buf (Elt Ideal) ℓ) (g : Dev Cert.KernelFourierIdeal.nD → PrngReg), Pre_KernelFourierIdeal m →
    θ_run (Cert.KernelFourierIdeal.defs (F := Ideal)) (onTc (τ := Cert.KernelFourierIdeal.τ) (Cert.KernelFourierIdeal.main (F := Ideal))) ⟨m, fun _ => 0, g⟩ (fun r => (∀ c : Dev Cert.KernelFourierIdeal.nD,
      r.2.mem ((c.tc : Thread Cert.KernelFourierIdeal.nD Cert.KernelFourierIdeal.τ).loc Cert.KernelFourierIdeal.main_arg0) = m ((c.tc : Thread Cert.KernelFourierIdeal.nD Cert.KernelFourierIdeal.τ).loc Cert.KernelFourierIdeal.main_arg0))
      ∧ r.2.sem = fun _ => 0)

def quiescent_ReferenceFourierIdeal [hReferenceFourierIdeal : Cert.ReferenceFourierIdeal.Facts] : Prop :=
  ∀ (m : (ℓ : Loc Cert.ReferenceFourierIdeal.nD Cert.ReferenceFourierIdeal.τ Cert.ReferenceFourierIdeal.sig) → Buf (Elt Ideal) ℓ) (g : Dev Cert.ReferenceFourierIdeal.nD → PrngReg), Pre_ReferenceFourierIdeal m →
    θ_run (Cert.ReferenceFourierIdeal.defs (F := Ideal)) (onTc (τ := Cert.ReferenceFourierIdeal.τ) (Cert.ReferenceFourierIdeal.main (F := Ideal))) ⟨m, fun _ => 0, g⟩ (fun r => (∀ c : Dev Cert.ReferenceFourierIdeal.nD,
      r.2.mem ((c.tc : Thread Cert.ReferenceFourierIdeal.nD Cert.ReferenceFourierIdeal.τ).loc Cert.ReferenceFourierIdeal.main_arg0) = m ((c.tc : Thread Cert.ReferenceFourierIdeal.nD Cert.ReferenceFourierIdeal.τ).loc Cert.ReferenceFourierIdeal.main_arg0))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)) →
    ∃ (v0 : (c : Dev Cert.KernelFfnIdeal.nD) → Buf (Elt Ideal) ((c.tc : Thread Cert.KernelFfnIdeal.nD Cert.KernelFfnIdeal.τ).loc Cert.KernelFfnIdeal.main_v7)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v7) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v43) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)) →
    ∃ (v0 : (c : Dev Cert.KernelMergeIdeal.nD) → Buf (Elt Ideal) ((c.tc : Thread Cert.KernelMergeIdeal.nD Cert.KernelMergeIdeal.τ).loc Cert.KernelMergeIdeal.main_v13)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v13) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v48) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)) →
    ∃ (v0 : (c : Dev Cert.KernelProjIdeal.nD) → Buf (Elt Ideal) ((c.tc : Thread Cert.KernelProjIdeal.nD Cert.KernelProjIdeal.τ).loc Cert.KernelProjIdeal.main_v48_0)) (v1 : (c : Dev Cert.KernelProjIdeal.nD) → Buf (Elt Ideal) ((c.tc : Thread Cert.KernelProjIdeal.nD Cert.KernelProjIdeal.τ).loc Cert.KernelProjIdeal.main_v48_1)) (v2 : (c : Dev Cert.KernelProjIdeal.nD) → Buf (Elt Ideal) ((c.tc : Thread Cert.KernelProjIdeal.nD Cert.KernelProjIdeal.τ).loc Cert.KernelProjIdeal.main_v48_2)) (v3 : (c : Dev Cert.KernelProjIdeal.nD) → Buf (Elt Ideal) ((c.tc : Thread Cert.KernelProjIdeal.nD Cert.KernelProjIdeal.τ).loc Cert.KernelProjIdeal.main_v48_3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v48_0) = v0 c
          ∧ r.2.mem ((c.tc : Thread Cert.KernelProjIdeal.nD Cert.KernelProjIdeal.τ).loc Cert.KernelProjIdeal.main_v48_1) = v1 c
          ∧ r.2.mem ((c.tc : Thread Cert.KernelProjIdeal.nD Cert.KernelProjIdeal.τ).loc Cert.KernelProjIdeal.main_v48_2) = v2 c
          ∧ r.2.mem ((c.tc : Thread Cert.KernelProjIdeal.nD Cert.KernelProjIdeal.τ).loc Cert.KernelProjIdeal.main_v48_3) = v3 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v127) = v0 c
          ∧ r.2.mem ((c.tc : Thread Cert.ReferenceProjIdeal.nD Cert.ReferenceProjIdeal.τ).loc Cert.ReferenceProjIdeal.main_v129) = v1 c
          ∧ r.2.mem ((c.tc : Thread Cert.ReferenceProjIdeal.nD Cert.ReferenceProjIdeal.τ).loc Cert.ReferenceProjIdeal.main_v131) = v2 c
          ∧ r.2.mem ((c.tc : Thread Cert.ReferenceProjIdeal.nD Cert.ReferenceProjIdeal.τ).loc Cert.ReferenceProjIdeal.main_v132) = v3 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6))

def preserves_KernelCtx_KernelCtxIdeal : Prop :=
  True

def algebraic_KernelCtxIdeal_ReferenceCtxIdeal [hKernelCtxIdeal : Cert.KernelCtxIdeal.Facts] [hReferenceCtxIdeal : Cert.ReferenceCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)
      ∧ m' ((c.tc : Thread Cert.ReferenceCtxIdeal.nD Cert.ReferenceCtxIdeal.τ).loc Cert.ReferenceCtxIdeal.main_arg4) = m ((c.tc : Thread Cert.KernelCtxIdeal.nD Cert.KernelCtxIdeal.τ).loc Cert.KernelCtxIdeal.main_arg4)
      ∧ m' ((c.tc : Thread Cert.ReferenceCtxIdeal.nD Cert.ReferenceCtxIdeal.τ).loc Cert.ReferenceCtxIdeal.main_arg5) = m ((c.tc : Thread Cert.KernelCtxIdeal.nD Cert.KernelCtxIdeal.τ).loc Cert.KernelCtxIdeal.main_arg5)) →
    ∃ (v0 : (c : Dev Cert.KernelCtxIdeal.nD) → Buf (Elt Ideal) ((c.tc : Thread Cert.KernelCtxIdeal.nD Cert.KernelCtxIdeal.τ).loc Cert.KernelCtxIdeal.main_v9_0)) (v1 : (c : Dev Cert.KernelCtxIdeal.nD) → Buf (Elt Ideal) ((c.tc : Thread Cert.KernelCtxIdeal.nD Cert.KernelCtxIdeal.τ).loc Cert.KernelCtxIdeal.main_v9_1)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v9_0) = v0 c
          ∧ r.2.mem ((c.tc : Thread Cert.KernelCtxIdeal.nD Cert.KernelCtxIdeal.τ).loc Cert.KernelCtxIdeal.main_v9_1) = v1 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3)
          ∧ r.2.mem ((c.tc : Thread Cert.KernelCtxIdeal.nD Cert.KernelCtxIdeal.τ).loc Cert.KernelCtxIdeal.main_arg4) = m ((c.tc : Thread Cert.KernelCtxIdeal.nD Cert.KernelCtxIdeal.τ).loc Cert.KernelCtxIdeal.main_arg4)
          ∧ r.2.mem ((c.tc : Thread Cert.KernelCtxIdeal.nD Cert.KernelCtxIdeal.τ).loc Cert.KernelCtxIdeal.main_arg5) = m ((c.tc : Thread Cert.KernelCtxIdeal.nD Cert.KernelCtxIdeal.τ).loc Cert.KernelCtxIdeal.main_arg5))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v43) = v0 c
          ∧ r.2.mem ((c.tc : Thread Cert.ReferenceCtxIdeal.nD Cert.ReferenceCtxIdeal.τ).loc Cert.ReferenceCtxIdeal.main_v45) = v1 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3)
          ∧ r.2.mem ((c.tc : Thread Cert.ReferenceCtxIdeal.nD Cert.ReferenceCtxIdeal.τ).loc Cert.ReferenceCtxIdeal.main_arg4) = m' ((c.tc : Thread Cert.ReferenceCtxIdeal.nD Cert.ReferenceCtxIdeal.τ).loc Cert.ReferenceCtxIdeal.main_arg4)
          ∧ r.2.mem ((c.tc : Thread Cert.ReferenceCtxIdeal.nD Cert.ReferenceCtxIdeal.τ).loc Cert.ReferenceCtxIdeal.main_arg5) = m' ((c.tc : Thread Cert.ReferenceCtxIdeal.nD Cert.ReferenceCtxIdeal.τ).loc Cert.ReferenceCtxIdeal.main_arg5))

def preserves_KernelAdaln_KernelAdalnIdeal : Prop :=
  True

def algebraic_KernelAdalnIdeal_ReferenceAdalnIdeal [hKernelAdalnIdeal : Cert.KernelAdalnIdeal.Facts] [hReferenceAdalnIdeal : Cert.ReferenceAdalnIdeal.Facts] : Prop :=
  ∀ (m : (ℓ : Loc Cert.KernelAdalnIdeal.nD Cert.KernelAdalnIdeal.τ Cert.KernelAdalnIdeal.sig) → Buf (Elt Ideal) ℓ) (g : Dev Cert.KernelAdalnIdeal.nD → PrngReg)
    (m' : (ℓ : Loc Cert.ReferenceAdalnIdeal.nD Cert.ReferenceAdalnIdeal.τ Cert.ReferenceAdalnIdeal.sig) → Buf (Elt Ideal) ℓ) (g' : Dev Cert.ReferenceAdalnIdeal.nD → PrngReg), Pre_KernelAdalnIdeal m →
    (∀ c : Dev Cert.KernelAdalnIdeal.nD,
      m' ((c.tc : Thread Cert.ReferenceAdalnIdeal.nD Cert.ReferenceAdalnIdeal.τ).loc Cert.ReferenceAdalnIdeal.main_arg0) = m ((c.tc : Thread Cert.KernelAdalnIdeal.nD Cert.KernelAdalnIdeal.τ).loc Cert.KernelAdalnIdeal.main_arg0)
      ∧ m' ((c.tc : Thread Cert.ReferenceAdalnIdeal.nD Cert.ReferenceAdalnIdeal.τ).loc Cert.ReferenceAdalnIdeal.main_arg1) = m ((c.tc : Thread Cert.KernelAdalnIdeal.nD Cert.KernelAdalnIdeal.τ).loc Cert.KernelAdalnIdeal.main_arg1)
      ∧ m' ((c.tc : Thread Cert.ReferenceAdalnIdeal.nD Cert.ReferenceAdalnIdeal.τ).loc Cert.ReferenceAdalnIdeal.main_arg2) = m ((c.tc : Thread Cert.KernelAdalnIdeal.nD Cert.KernelAdalnIdeal.τ).loc Cert.KernelAdalnIdeal.main_arg2)) →
    ∃ (v0 : (c : Dev Cert.KernelAdalnIdeal.nD) → Buf (Elt Ideal) ((c.tc : Thread Cert.KernelAdalnIdeal.nD Cert.KernelAdalnIdeal.τ).loc Cert.KernelAdalnIdeal.main_v3)),
      θ_run (Cert.KernelAdalnIdeal.defs (F := Ideal)) (onTc (τ := Cert.KernelAdalnIdeal.τ) (Cert.KernelAdalnIdeal.main (F := Ideal))) ⟨m, fun _ => 0, g⟩ (fun r => ∀ c : Dev Cert.KernelAdalnIdeal.nD,
          r.2.mem ((c.tc : Thread Cert.KernelAdalnIdeal.nD Cert.KernelAdalnIdeal.τ).loc Cert.KernelAdalnIdeal.main_v3) = v0 c
          ∧ r.2.mem ((c.tc : Thread Cert.KernelAdalnIdeal.nD Cert.KernelAdalnIdeal.τ).loc Cert.KernelAdalnIdeal.main_arg0) = m ((c.tc : Thread Cert.KernelAdalnIdeal.nD Cert.KernelAdalnIdeal.τ).loc Cert.KernelAdalnIdeal.main_arg0)
          ∧ r.2.mem ((c.tc : Thread Cert.KernelAdalnIdeal.nD Cert.KernelAdalnIdeal.τ).loc Cert.KernelAdalnIdeal.main_arg1) = m ((c.tc : Thread Cert.KernelAdalnIdeal.nD Cert.KernelAdalnIdeal.τ).loc Cert.KernelAdalnIdeal.main_arg1)
          ∧ r.2.mem ((c.tc : Thread Cert.KernelAdalnIdeal.nD Cert.KernelAdalnIdeal.τ).loc Cert.KernelAdalnIdeal.main_arg2) = m ((c.tc : Thread Cert.KernelAdalnIdeal.nD Cert.KernelAdalnIdeal.τ).loc Cert.KernelAdalnIdeal.main_arg2))
      ∧ θ_run (Cert.ReferenceAdalnIdeal.defs (F := Ideal)) (onTc (τ := Cert.ReferenceAdalnIdeal.τ) (Cert.ReferenceAdalnIdeal.main (F := Ideal))) ⟨m', fun _ => 0, g'⟩ (fun r => ∀ c : Dev Cert.ReferenceAdalnIdeal.nD,
          r.2.mem ((c.tc : Thread Cert.ReferenceAdalnIdeal.nD Cert.ReferenceAdalnIdeal.τ).loc Cert.ReferenceAdalnIdeal.main_v6) = v0 c
          ∧ r.2.mem ((c.tc : Thread Cert.ReferenceAdalnIdeal.nD Cert.ReferenceAdalnIdeal.τ).loc Cert.ReferenceAdalnIdeal.main_arg0) = m' ((c.tc : Thread Cert.ReferenceAdalnIdeal.nD Cert.ReferenceAdalnIdeal.τ).loc Cert.ReferenceAdalnIdeal.main_arg0)
          ∧ r.2.mem ((c.tc : Thread Cert.ReferenceAdalnIdeal.nD Cert.ReferenceAdalnIdeal.τ).loc Cert.ReferenceAdalnIdeal.main_arg1) = m' ((c.tc : Thread Cert.ReferenceAdalnIdeal.nD Cert.ReferenceAdalnIdeal.τ).loc Cert.ReferenceAdalnIdeal.main_arg1)
          ∧ r.2.mem ((c.tc : Thread Cert.ReferenceAdalnIdeal.nD Cert.ReferenceAdalnIdeal.τ).loc Cert.ReferenceAdalnIdeal.main_arg2) = m' ((c.tc : Thread Cert.ReferenceAdalnIdeal.nD Cert.ReferenceAdalnIdeal.τ).loc Cert.ReferenceAdalnIdeal.main_arg2))

def preserves_KernelFourier_KernelFourierIdeal : Prop :=
  True

def algebraic_KernelFourierIdeal_ReferenceFourierIdeal [hKernelFourierIdeal : Cert.KernelFourierIdeal.Facts] [hReferenceFourierIdeal : Cert.ReferenceFourierIdeal.Facts] : Prop :=
  ∀ (m : (ℓ : Loc Cert.KernelFourierIdeal.nD Cert.KernelFourierIdeal.τ Cert.KernelFourierIdeal.sig) → Buf (Elt Ideal) ℓ) (g : Dev Cert.KernelFourierIdeal.nD → PrngReg)
    (m' : (ℓ : Loc Cert.ReferenceFourierIdeal.nD Cert.ReferenceFourierIdeal.τ Cert.ReferenceFourierIdeal.sig) → Buf (Elt Ideal) ℓ) (g' : Dev Cert.ReferenceFourierIdeal.nD → PrngReg), Pre_KernelFourierIdeal m →
    (∀ c : Dev Cert.KernelFourierIdeal.nD,
      m' ((c.tc : Thread Cert.ReferenceFourierIdeal.nD Cert.ReferenceFourierIdeal.τ).loc Cert.ReferenceFourierIdeal.main_arg0) = m ((c.tc : Thread Cert.KernelFourierIdeal.nD Cert.KernelFourierIdeal.τ).loc Cert.KernelFourierIdeal.main_arg0)) →
    ∃ (v0 : (c : Dev Cert.KernelFourierIdeal.nD) → Buf (Elt Ideal) ((c.tc : Thread Cert.KernelFourierIdeal.nD Cert.KernelFourierIdeal.τ).loc Cert.KernelFourierIdeal.main_v33)),
      θ_run (Cert.KernelFourierIdeal.defs (F := Ideal)) (onTc (τ := Cert.KernelFourierIdeal.τ) (Cert.KernelFourierIdeal.main (F := Ideal))) ⟨m, fun _ => 0, g⟩ (fun r => ∀ c : Dev Cert.KernelFourierIdeal.nD,
          r.2.mem ((c.tc : Thread Cert.KernelFourierIdeal.nD Cert.KernelFourierIdeal.τ).loc Cert.KernelFourierIdeal.main_v33) = v0 c
          ∧ r.2.mem ((c.tc : Thread Cert.KernelFourierIdeal.nD Cert.KernelFourierIdeal.τ).loc Cert.KernelFourierIdeal.main_arg0) = m ((c.tc : Thread Cert.KernelFourierIdeal.nD Cert.KernelFourierIdeal.τ).loc Cert.KernelFourierIdeal.main_arg0))
      ∧ θ_run (Cert.ReferenceFourierIdeal.defs (F := Ideal)) (onTc (τ := Cert.ReferenceFourierIdeal.τ) (Cert.ReferenceFourierIdeal.main (F := Ideal))) ⟨m', fun _ => 0, g'⟩ (fun r => ∀ c : Dev Cert.ReferenceFourierIdeal.nD,
          r.2.mem ((c.tc : Thread Cert.ReferenceFourierIdeal.nD Cert.ReferenceFourierIdeal.τ).loc Cert.ReferenceFourierIdeal.main_v41) = v0 c
          ∧ r.2.mem ((c.tc : Thread Cert.ReferenceFourierIdeal.nD Cert.ReferenceFourierIdeal.τ).loc Cert.ReferenceFourierIdeal.main_arg0) = m' ((c.tc : Thread Cert.ReferenceFourierIdeal.nD Cert.ReferenceFourierIdeal.τ).loc Cert.ReferenceFourierIdeal.main_arg0))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelMerge : Cert.KernelMerge.Facts) (hKernelMergeIdeal : Cert.KernelMergeIdeal.Facts) (hReferenceMergeIdeal : Cert.ReferenceMergeIdeal.Facts) (hKernelProj : Cert.KernelProj.Facts) (hKernelProjIdeal : Cert.KernelProjIdeal.Facts) (hReferenceProjIdeal : Cert.ReferenceProjIdeal.Facts) (hKernelCtx : Cert.KernelCtx.Facts) (hKernelCtxIdeal : Cert.KernelCtxIdeal.Facts) (hReferenceCtxIdeal : Cert.ReferenceCtxIdeal.Facts) (hKernelAdaln : Cert.KernelAdaln.Facts) (hKernelAdalnIdeal : Cert.KernelAdalnIdeal.Facts) (hReferenceAdalnIdeal : Cert.ReferenceAdalnIdeal.Facts) (hKernelFourier : Cert.KernelFourier.Facts) (hKernelFourierIdeal : Cert.KernelFourierIdeal.Facts) (hReferenceFourierIdeal : Cert.ReferenceFourierIdeal.Facts) (hPre_qk_finite : Cert.Pre_qk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelCtx (hKernelCtx := hKernelCtx)
    ∧ quiescent_KernelCtxIdeal (hKernelCtxIdeal := hKernelCtxIdeal)
    ∧ quiescent_ReferenceCtxIdeal (hReferenceCtxIdeal := hReferenceCtxIdeal)
    ∧ quiescent_KernelAdaln (hKernelAdaln := hKernelAdaln)
    ∧ quiescent_KernelAdalnIdeal (hKernelAdalnIdeal := hKernelAdalnIdeal)
    ∧ quiescent_ReferenceAdalnIdeal (hReferenceAdalnIdeal := hReferenceAdalnIdeal)
    ∧ quiescent_KernelFourier (hKernelFourier := hKernelFourier)
    ∧ quiescent_KernelFourierIdeal (hKernelFourierIdeal := hKernelFourierIdeal)
    ∧ quiescent_ReferenceFourierIdeal (hReferenceFourierIdeal := hReferenceFourierIdeal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelProj_KernelProjIdeal
    ∧ algebraic_KernelProjIdeal_ReferenceProjIdeal (hKernelProjIdeal := hKernelProjIdeal) (hReferenceProjIdeal := hReferenceProjIdeal)
    ∧ preserves_KernelCtx_KernelCtxIdeal
    ∧ algebraic_KernelCtxIdeal_ReferenceCtxIdeal (hKernelCtxIdeal := hKernelCtxIdeal) (hReferenceCtxIdeal := hReferenceCtxIdeal)
    ∧ preserves_KernelAdaln_KernelAdalnIdeal
    ∧ algebraic_KernelAdalnIdeal_ReferenceAdalnIdeal (hKernelAdalnIdeal := hKernelAdalnIdeal) (hReferenceAdalnIdeal := hReferenceAdalnIdeal)
    ∧ preserves_KernelFourier_KernelFourierIdeal
    ∧ algebraic_KernelFourierIdeal_ReferenceFourierIdeal (hKernelFourierIdeal := hKernelFourierIdeal) (hReferenceFourierIdeal := hReferenceFourierIdeal)
-- ==== Pre_qk_finite.lean ====
abbrev S8x1024x2048 : Shape := ⟨3, ![8, 1024, 2048]⟩
abbrev S8x2048x256 : Shape := ⟨3, ![8, 2048, 256]⟩
abbrev S8x256x256 : Shape := ⟨3, ![8, 256, 256]⟩
abbrev S8x256x2048 : Shape := ⟨3, ![8, 256, 2048]⟩
abbrev S_ : Shape := ⟨0, ![]⟩

class Facts : Prop where
  bitsLt_bf16_f32 : FTy.bits .bf16 < FTy.bits .f32
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S8x1024x2048 .bf16) (main_arg1 : FVec F S8x2048x256 .bf16) (main_arg2 : FVec F S8x256x256 .bf16) (main_arg3 : FVec F S8x256x2048 .bf16) (main_arg4 : FVec F S8x256x256 .bf16) : IVec S_ 1 :=
  let main_v0 : FVec F S8x1024x2048 .f32 := (extf .f32 · bitsLt_bf16_f32) main_arg0
  let main_v1 : FVec F S8x1024x2048 .f32 := Host.absf main_v0
  let main_cst : FVec F S_ .f32 := constant S_ .f32 0x7F800000#32
  let main_v2 : FVec F S8x1024x2048 .f32 := broadcastInDim S8x1024x2048 ![] bcast_S_S8x1024x2048 main_cst
  let main_v3 : IVec S8x1024x2048 1 := cmpf .olt main_v1 main_v2
  let main_c : IVec S_ 1 := constantI S_ 1 1#1
  let main_v4 : IVec S_ 1 := (fun x v => Host.reduce IntOp.andi x v reducesTo_S8x1024x2048_S_d0_1_2 h_S_) main_v3 main_c
  let main_v5 : FVec F S8x2048x256 .f32 := (extf .f32 · bitsLt_bf16_f32) main_arg1
  let main_v6 : FVec F S8x2048x256 .f32 := Host.absf main_v5
  let main_cst_0 : FVec F S_ .f32 := constant S_ .f32 0x7F800000#32
  let main_v7 : FVec F S8x2048x256 .f32 := broadcastInDim S8x2048x256 ![] bcast_S_S8x2048x256 main_cst_0
  let main_v8 : IVec S8x2048x256 1 := cmpf .olt main_v6 main_v7
  let main_c_1 : IVec S_ 1 := constantI S_ 1 1#1
  let main_v9 : IVec S_ 1 := (fun x v => Host.reduce IntOp.andi x v reducesTo_S8x2048x256_S_d0_1_2 h_S_) main_v8 main_c_1
  let main_v10 : IVec S_ 1 := andi main_v4 main_v9
  let main_v11 : FVec F S8x256x256 .f32 := (extf .f32 · bitsLt_bf16_f32) main_arg2
  let main_v12 : FVec F S8x256x256 .f32 := Host.absf main_v11
  let main_cst_2 : FVec F S_ .f32 := constant S_ .f32 0x7F800000#32
  let main_v13 : FVec F S8x256x256 .f32 := broadcastInDim S8x256x256 ![] bcast_S_S8x256x256 main_cst_2
  let main_v14 : IVec S8x256x256 1 := cmpf .olt main_v12 main_v13
  let main_c_3 : IVec S_ 1 := constantI S_ 1 1#1
  let main_v15 : IVec S_ 1 := (fun x v => Host.reduce IntOp.andi x v reducesTo_S8x256x256_S_d0_1_2 h_S_) main_v14 main_c_3
  let main_v16 : IVec S_ 1 := andi main_v10 main_v15
  main_v16
-- ==== Kernel.lean ====
abbrev S8x1024x2048 : Shape := ⟨3, ![8, 1024, 2048]⟩
abbrev S8x2048x256 : Shape := ⟨3, ![8, 2048, 256]⟩
abbrev S8x256x256 : Shape := ⟨3, ![8, 256, 256]⟩
abbrev S8x256x2048 : Shape := ⟨3, ![8, 256, 2048]⟩
abbrev S8x2048x1024 : Shape := ⟨3, ![8, 2048, 1024]⟩
abbrev S1x256x256 : Shape := ⟨3, ![1, 256, 256]⟩
abbrev S1x2048x256 : Shape := ⟨3, ![1, 2048, 256]⟩
abbrev S1x64x2048 : Shape := ⟨3, ![1, 64, 2048]⟩
abbrev S1x64x256 : Shape := ⟨3, ![1, 64, 256]⟩
abbrev S256x256 : Shape := ⟨2, ![256, 256]⟩
abbrev S2048x256 : Shape := ⟨2, ![2048, 256]⟩
abbrev S64x2048 : Shape := ⟨2, ![64, 2048]⟩
abbrev S16x2048 : Shape := ⟨2, ![16, 2048]⟩
abbrev S80x2048 : Shape := ⟨2, ![80, 2048]⟩
abbrev S64x256 : Shape := ⟨2, ![64, 256]⟩
abbrev S16x256 : Shape := ⟨2, ![16, 256]⟩
abbrev S80x256 : Shape := ⟨2, ![80, 256]⟩
abbrev S256 : Shape := ⟨1, ![256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x1024x2048, .bf16⟩
  | .hbm, ⟨1, _⟩ => ⟨S8x2048x256, .bf16⟩
  | .hbm, ⟨2, _⟩ => ⟨S8x256x256, .bf16⟩
  | .hbm, ⟨3, _⟩ => ⟨S8x256x2048, .bf16⟩
  | .hbm, ⟨4, _⟩ => ⟨S8x256x256, .bf16⟩
  | .hbm, ⟨5, _⟩ => ⟨S8x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x64x256, .bf16⟩
  | .local _ .vmem, ⟨9, _⟩ => ⟨S1x64x256, .bf16⟩
  | .local _ .vmem, ⟨10, _⟩ => ⟨S1x256x256, .bf16⟩
  | .local _ .vmem, ⟨11, _⟩ => ⟨S1x256x256, .bf16⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x1024x2048 : Shape := ⟨3, ![8, 1024, 2048]⟩
abbrev S8x2048x256 : Shape := ⟨3, ![8, 2048, 256]⟩
abbrev S8x256x256 : Shape := ⟨3, ![8, 256, 256]⟩
abbrev S8x256x2048 : Shape := ⟨3, ![8, 256, 2048]⟩
abbrev S8x2048x1024 : Shape := ⟨3, ![8, 2048, 1024]⟩
abbrev S8x2048x4x4x64 : Shape := ⟨5, ![8, 2048, 4, 4, 64]⟩
abbrev S8x2304x256 : Shape := ⟨3, ![8, 2304, 256]⟩
abbrev S8x2304x4x64 : Shape := ⟨4, ![8, 2304, 4, 64]⟩
abbrev S8x4x2304x2048x4 : Shape := ⟨5, ![8, 4, 2304, 2048, 4]⟩
abbrev S8x4x4x2048x2304 : Shape := ⟨5, ![8, 4, 4, 2048, 2304]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x2048x256, .bf16⟩
  | .hbm, ⟨2, _⟩ => ⟨S8x256x256, .bf16⟩
  | .hbm, ⟨3, _⟩ => ⟨S8x256x2048, .bf16⟩
  | .hbm, ⟨4, _⟩ => ⟨S8x256x256, .bf16⟩
  | .hbm, ⟨5, _⟩ => ⟨S8x1024x2048, .f32⟩
  | .hbm, ⟨6, _⟩ => ⟨S8x2048x1024, .f32⟩
  | .hbm, ⟨7, _⟩ => ⟨S8x2048x4x4x64, .f32⟩
  | .hbm, ⟨8, _⟩ => ⟨S8x256x256, .f32⟩
  | .hbm, ⟨9, _⟩ => ⟨S8x2048x256, .f32⟩
  | .hbm, ⟨10, _⟩ => ⟨S8x2304x256, .f32⟩
  | .hbm, ⟨11, _⟩ => ⟨S8x2304x4x64, .f32⟩
  | .hbm, ⟨12, _⟩ => ⟨S8x256x256, .f32⟩
  | .hbm, ⟨13, _⟩ => ⟨S8x256x256, .f32⟩
  | .hbm, ⟨14, _⟩ => ⟨S8x256x2048, .f32⟩
  | .hbm, ⟨15, _⟩ => ⟨S8x2048x256, .f32⟩
  | .hbm, ⟨16, _⟩ => ⟨S8x2304x256, .f32⟩
  | .hbm, ⟨17, _⟩ => ⟨S8x2304x4x64, .f32⟩
  | .hbm, ⟨18, _⟩ => ⟨S8x4x2304x2048x4, .f32⟩
  | .hbm, ⟨19, _⟩ => ⟨S8x4x4x2048x2304, .f32⟩
  | .hbm, ⟨20, _⟩ => ⟨S_, .f32⟩
  | .hbm, ⟨21, _⟩ => ⟨S8x4x4x2048, .f32⟩
  | .hbm, ⟨22, _⟩ => ⟨S_, .f32⟩
  | .hbm, ⟨23, _⟩ => ⟨S8x4x4x2048, .f32⟩
  | .hbm, ⟨24, _⟩ => ⟨S8x4x4x2048, .f32⟩
  | .hbm, ⟨25, _⟩ => ⟨S8x4x4x2048x1, .f32⟩
  | .hbm, ⟨26, _⟩ => ⟨S8x4x4x2048x2304, .f32⟩
  | .hbm, ⟨27, _⟩ => ⟨S8x4x4x2048x2304, .f32⟩
  | .hbm, ⟨28, _⟩ => ⟨S8x4x4x2048x2304, .f32⟩
  | .hbm, ⟨29, _⟩ => ⟨S_, .f32⟩
  | .hbm, ⟨30, _⟩ => ⟨S8x4x4x2048, .f32⟩
  | .hbm, ⟨31, _⟩ => ⟨S8x4x4x2048x1, .f32⟩
  | .hbm, ⟨32, _⟩ => ⟨S8x4x4x2048x2304, .f32⟩
  | .hbm, ⟨33, _⟩ => ⟨S8x4x4x2048x2304, .f32⟩
  | .hbm, ⟨34, _⟩ => ⟨S8x4x64x4x2048, .f32⟩
  | .hbm, ⟨35, _⟩ => ⟨S8x2048x4x4x64, .f32⟩
  | .hbm, ⟨36, _⟩ => ⟨S8x2048x1024, .f32⟩
  | .hbm, ⟨37, _⟩ => ⟨S8x2048x1024, .bf16⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== KernelFfn.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFfnIdeal.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S2816x1024 : Shape := ⟨2, ![2816, 1024]⟩
abbrev S8x2048x5632 : Shape := ⟨3, ![8, 2048, 5632]⟩
abbrev S8x2048x2816 : Shape := ⟨3, ![8, 2048, 2816]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S1024x5632, .f32⟩
  | .hbm, ⟨33, _⟩ => ⟨S2816x1024, .f32⟩
  | .hbm, ⟨34, _⟩ => ⟨S8x2048x5632, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S_, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== KernelMerge.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x4096 : Shape := ⟨3, ![1, 1024, 4096]⟩
abbrev S1x2048 : Shape := ⟨2, ![1, 2048]⟩
abbrev S8x2048x512 : Shape := ⟨3, ![8, 2048, 512]⟩
abbrev S1x1024x1024 : Shape := ⟨3, ![1, 1024, 1024]⟩
abbrev S1x512x1024 : Shape := ⟨3, ![1, 512, 1024]⟩
abbrev S1024x4096 : Shape := ⟨2, ![1024, 4096]⟩
abbrev S1024x2048 : Shape := ⟨2, ![1024, 2048]⟩
abbrev S1024 : Shape := ⟨1, ![1024]⟩
abbrev S2048 : Shape := ⟨1, ![2048]⟩
abbrev S1024x1024 : Shape := ⟨2, ![1024, 1024]⟩
abbrev S512x1024 : Shape := ⟨2, ![512, 1024]⟩
abbrev S1x1x1024 : Shape := ⟨3, ![1, 1, 1024]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩

abbrev nBuf : Space → Nat
  | .hbm => 26
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1x1024, .f32⟩
  | .hbm, ⟨5, _⟩ => ⟨S1x1024x4096, .f32⟩
  | .hbm, ⟨6, _⟩ => ⟨S1x2048, .f32⟩
  | .hbm, ⟨7, _⟩ => ⟨S8x2048x1024, .bf16⟩
  | .hbm, ⟨8, _⟩ => ⟨S8x2048x512, .bf16⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1024x4096, .f32⟩
  | .hbm, ⟨13, _⟩ => ⟨S1024x2048, .f32⟩
  | .hbm, ⟨14, _⟩ => ⟨S1024x2048, .bf16⟩
  | .hbm, ⟨15, _⟩ => ⟨S1024, .f32⟩
  | .hbm, ⟨16, _⟩ => ⟨S1x1024, .f32⟩
  | .hbm, ⟨17, _⟩ => ⟨S2048, .f32⟩
  | .hbm, ⟨18, _⟩ => ⟨S1x2048, .f32⟩
  | .hbm, ⟨19, _⟩ => ⟨S1024x1024, .f32⟩
  | .hbm, ⟨20, _⟩ => ⟨S1024x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x512, .bf16⟩
  | .local _ .vmem, ⟨14, _⟩ => ⟨S1x512x512, .bf16⟩
  | .local _ .vmem, ⟨15, _⟩ => ⟨S1024x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMergeIdeal.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x4096 : Shape := ⟨3, ![1, 1024, 4096]⟩
abbrev S1x2048 : Shape := ⟨2, ![1, 2048]⟩
abbrev S8x2048x512 : Shape := ⟨3, ![8, 2048, 512]⟩
abbrev S1x1024x1024 : Shape := ⟨3, ![1, 1024, 1024]⟩
abbrev S1x512x1024 : Shape := ⟨3, ![1, 512, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S1024x2048 : Shape := ⟨2, ![1024, 2048]⟩
abbrev S8x2048x2048 : Shape := ⟨3, ![8, 2048, 2048]⟩
abbrev S2048 : Shape := ⟨1, ![2048]⟩
abbrev S1x1x2048 : Shape := ⟨3, ![1, 1, 2048]⟩
abbrev S1024x1024 : Shape := ⟨2, ![1024, 1024]⟩
abbrev S512x1024 : Shape := ⟨2, ![512, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1x1024, .f32⟩
  | .hbm, ⟨5, _⟩ => ⟨S1x1024x4096, .f32⟩
  | .hbm, ⟨6, _⟩ => ⟨S1x2048, .f32⟩
  | .hbm, ⟨7, _⟩ => ⟨S8x2048x1024, .bf16⟩
  | .hbm, ⟨8, _⟩ => ⟨S8x2048x512, .bf16⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1024x4096, .f32⟩
  | .hbm, ⟨37, _⟩ => ⟨S1024x2048, .f32⟩
  | .hbm, ⟨38, _⟩ => ⟨S8x2048x2048, .f32⟩
  | .hbm, ⟨39, _⟩ => ⟨S2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S1024x1024, .f32⟩
  | .hbm, ⟨55, _⟩ => ⟨S8x2048x1024, .f32⟩
  | .hbm, ⟨56, _⟩ => ⟨S8x2048x1024, .f32⟩
  | .hbm, ⟨57, _⟩ => ⟨S8x2048x512, .f32⟩
  | .hbm, ⟨58, _⟩ => ⟨S512x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S1024x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== KernelProj.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x4096 : Shape := ⟨3, ![1, 1024, 4096]⟩
abbrev S1x64 : Shape := ⟨2, ![1, 64]⟩
abbrev S1024x4096 : Shape := ⟨2, ![1024, 4096]⟩
abbrev S1024x1536 : Shape := ⟨2, ![1024, 1536]⟩
abbrev S1536x1024 : Shape := ⟨2, ![1536, 1024]⟩
abbrev S1024x512 : Shape := ⟨2, ![1024, 512]⟩
abbrev S1024 : Shape := ⟨1, ![1024]⟩
abbrev S64 : Shape := ⟨1, ![64]⟩
abbrev S_ : Shape := ⟨0, ![]⟩
abbrev S64x1 : Shape := ⟨2, ![64, 1]⟩
abbrev S64x512 : Shape := ⟨2, ![64, 512]⟩
abbrev S32 : Shape := ⟨1, ![32]⟩
abbrev S32x64 : Shape := ⟨2, ![32, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S32x2048 : Shape := ⟨2, ![32, 2048]⟩
abbrev S8x1024x2048 : Shape := ⟨3, ![8, 1024, 2048]⟩
abbrev S8x2048x256 : Shape := ⟨3, ![8, 2048, 256]⟩
abbrev S8x256x2048 : Shape := ⟨3, ![8, 256, 2048]⟩
abbrev S8x2048x512 : Shape := ⟨3, ![8, 2048, 512]⟩
abbrev S1x512x1024 : Shape := ⟨3, ![1, 512, 1024]⟩
abbrev S1x1x1024 : Shape := ⟨3, ![1, 1, 1024]⟩
abbrev S32x512 : Shape := ⟨2, ![32, 512]⟩
abbrev S1x1024x512 : Shape := ⟨3, ![1, 1024, 512]⟩
abbrev S1x512x256 : Shape := ⟨3, ![1, 512, 256]⟩
abbrev S1x256x512 : Shape := ⟨3, ![1, 256, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1536x512 : Shape := ⟨2, ![1536, 512]⟩
abbrev S1x512 : Shape := ⟨2, ![1, 512]⟩
abbrev S1x32x512 : Shape := ⟨3, ![1, 32, 512]⟩
abbrev S256x512 : Shape := ⟨2, ![256, 512]⟩
abbrev S512x256 : Shape := ⟨2, ![512, 256]⟩
abbrev S512x512 : Shape := ⟨2, ![512, 512]⟩

abbrev nBuf : Space → Nat
  | .hbm => 64
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x4096, .f32⟩
  | .hbm, ⟨5, _⟩ => ⟨S1x64, .f32⟩
  | .hbm, ⟨6, _⟩ => ⟨S1x64, .f32⟩
  | .hbm, ⟨7, _⟩ => ⟨S1024x4096, .f32⟩
  | .hbm, ⟨8, _⟩ => ⟨S1024x1536, .f32⟩
  | .hbm, ⟨9, _⟩ => ⟨S1536x1024, .f32⟩
  | .hbm, ⟨10, _⟩ => ⟨S1536x1024, .bf16⟩
  | .hbm, ⟨11, _⟩ => ⟨S1024x512, .f32⟩
  | .hbm, ⟨12, _⟩ => ⟨S1024x512, .bf16⟩
  | .hbm, ⟨13, _⟩ => ⟨S1024, .f32⟩
  | .hbm, ⟨14, _⟩ => ⟨S1x1024, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S64x1, .f32⟩
  | .hbm, ⟨22, _⟩ => ⟨S64x512, .f32⟩
  | .hbm, ⟨23, _⟩ => ⟨S64x512, .f32⟩
  | .hbm, ⟨24, _⟩ => ⟨S32, .f32⟩
  | .hbm, ⟨25, _⟩ => ⟨S32x64, .f32⟩
  | .hbm, ⟨26, _⟩ => ⟨S2048, .f32⟩
  | .hbm, ⟨27, _⟩ => ⟨S64, .f32⟩
  | .hbm, ⟨28, _⟩ => ⟨S1x64, .f32⟩
  | .hbm, ⟨29, _⟩ => ⟨S32x64, .f32⟩
  | .hbm, ⟨30, _⟩ => ⟨S2048, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S2048x1, .f32⟩
  | .hbm, ⟨46, _⟩ => ⟨S1x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x1, .f32⟩
  | .hbm, ⟨51, _⟩ => ⟨S1x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x32, .f32⟩
  | .hbm, ⟨56, _⟩ => ⟨S2048x32, .f32⟩
  | .hbm, ⟨57, _⟩ => ⟨S32x2048, .f32⟩
  | .hbm, ⟨58, _⟩ => ⟨S2048x32, .f32⟩
  | .hbm, ⟨59, _⟩ => ⟨S32x2048, .f32⟩
  | .hbm, ⟨60, _⟩ => ⟨S8x1024x2048, .bf16⟩
  | .hbm, ⟨61, _⟩ => ⟨S8x2048x256, .bf16⟩
  | .hbm, ⟨62, _⟩ => ⟨S8x256x2048, .bf16⟩
  | .hbm, ⟨63, _⟩ => ⟨S8x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1536x1024, .bf16⟩
  | .local _ .vmem, ⟨8, _⟩ => ⟨S1024x512, .bf16⟩
  | .local _ .vmem, ⟨9, _⟩ => ⟨S64x512, .f32⟩
  | .local _ .vmem, ⟨10, _⟩ => ⟨S64x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S1x1024x512, .bf16⟩
  | .local _ .vmem, ⟨16, _⟩ => ⟨S1x1024x512, .bf16⟩
  | .local _ .vmem, ⟨17, _⟩ => ⟨S1x512x256, .bf16⟩
  | .local _ .vmem, ⟨18, _⟩ => ⟨S1x512x256, .bf16⟩
  | .local _ .vmem, ⟨19, _⟩ => ⟨S1x256x512, .bf16⟩
  | .local _ .vmem, ⟨20, _⟩ => ⟨S1x256x512, .bf16⟩
  | .local _ .vmem, ⟨21, _⟩ => ⟨S1x512x512, .bf16⟩
  | .local _ .vmem, ⟨22, _⟩ => ⟨S1x512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48_0 : Ref sig .tc := ⟨.hbm, 60, rfl⟩
abbrev main_v48_1 : Ref sig .tc := ⟨.hbm, 61, rfl⟩
abbrev main_v48_2 : Ref sig .tc := ⟨.hbm, 62, rfl⟩
abbrev main_v48_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceProjIdeal.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x4096 : Shape := ⟨3, ![1, 1024, 4096]⟩
abbrev S1x64 : Shape := ⟨2, ![1, 64]⟩
abbrev S32 : Shape := ⟨1, ![32]⟩
abbrev S32x64 : Shape := ⟨2, ![32, 64]⟩
abbrev S2048 : Shape := ⟨1, ![2048]⟩
abbrev S64 : Shape := ⟨1, ![64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x1x32 : Shape := ⟨3, ![2048, 1, 32]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S8x2048x256 : Shape := ⟨3, ![8, 2048, 256]⟩
abbrev S8x2048x512 : Shape := ⟨3, ![8, 2048, 512]⟩
abbrev S8x2048x2048 : Shape := ⟨3, ![8, 2048, 2048]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x16x32 : Shape := ⟨4, ![8, 2048, 16, 32]⟩
abbrev S1x2048x1x32 : Shape := ⟨4, ![1, 2048, 1, 32]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S8x2048x4x32 : Shape := ⟨4, ![8, 2048, 4, 32]⟩
abbrev S8x1024x2048 : Shape := ⟨3, ![8, 1024, 2048]⟩
abbrev S8x256x2048 : Shape := ⟨3, ![8, 256, 2048]⟩

abbrev nBuf : Space → Nat
  | .hbm => 155
  | .vmem => 0
  | .smem => 0
  | _ => 0

abbrev hbmTy0_0 (i : Nat) : BufTy := match i % 128 with
  | 0 => ⟨S8x2048x1024, .f32⟩
  | 1 => ⟨S8x1x1024, .f32⟩
  | 2 => ⟨S8x1x1024, .f32⟩
  | 3 => ⟨S1x1024, .f32⟩
  | 4 => ⟨S1x1024x4096, .f32⟩
  | 5 => ⟨S1x64, .f32⟩
  | 6 => ⟨S1x64, .f32⟩
  | 7 => ⟨S32, .f32⟩
  | 8 => ⟨S32x64, .f32⟩
  | 9 => ⟨S2048, .f32⟩
  | 10 => ⟨S64, .f32⟩
  | 11 => ⟨S1x64, .f32⟩
  | 12 => ⟨S32x64, .f32⟩
  | 13 => ⟨S2048, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S2048x1, .f32⟩
  | 29 => ⟨S1x16, .f32⟩
  | 30 => ⟨S2048x16, .f32⟩
  | 31 => ⟨S2048x16, .f32⟩
  | 32 => ⟨S2048x16, .f32⟩
  | 33 => ⟨S2048x1, .f32⟩
  | 34 => ⟨S1x16, .f32⟩
  | 35 => ⟨S2048x16, .f32⟩
  | 36 => ⟨S2048x16, .f32⟩
  | 37 => ⟨S2048x16, .f32⟩
  | 38 => ⟨S2048x32, .f32⟩
  | 39 => ⟨S2048x32, .f32⟩
  | 40 => ⟨S2048x1x32, .f32⟩
  | 41 => ⟨S2048x32, .f32⟩
  | 42 => ⟨S2048x1x32, .f32⟩
  | 43 => ⟨S1024, .f32⟩
  | 44 => ⟨S8x2048x1024, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S_, .f32⟩
  | 52 => ⟨S8x2048x1, .f32⟩
  | 53 => ⟨S8x2048x1, .f32⟩
  | 54 => ⟨S8x2048x1, .f32⟩
  | 55 => ⟨S8x2048x1024, .f32⟩
  | 56 => ⟨S8x2048x1024, .f32⟩
  | 57 => ⟨S1x1x1024, .f32⟩
  | 58 => ⟨S8x2048x1024, .f32⟩
  | 59 => ⟨S8x2048x1024, .f32⟩
  | 60 => ⟨S_, .f32⟩
  | 61 => ⟨S8x1x1024, .f32⟩
  | 62 => ⟨S8x1x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S1024x4096, .f32⟩
  | 68 => ⟨S8x2048x4096, .f32⟩
  | 69 => ⟨S8x2048x1024, .f32⟩
  | 70 => ⟨S8x2048x256, .f32⟩
  | 71 => ⟨S8x2048x256, .f32⟩
  | 72 => ⟨S8x2048x512, .f32⟩
  | 73 => ⟨S8x2048x2048, .f32⟩
  | 74 => ⟨S8x2048x16x64, .f32⟩
  | 75 => ⟨S64, .f32⟩
  | 76 => ⟨S8x2048x16x64, .f32⟩
  | 77 => ⟨S_, .f32⟩
  | 78 => ⟨S8x2048x16, .f32⟩
  | 79 => ⟨S8x2048x16x1, .f32⟩
  | 80 => ⟨S_, .f32⟩
  | 81 => ⟨S8x2048x16x1, .f32⟩
  | 82 => ⟨S8x2048x16x1, .f32⟩
  | 83 => ⟨S_, .f32⟩
  | 84 => ⟨S8x2048x16x1, .f32⟩
  | 85 => ⟨S8x2048x16x1, .f32⟩
  | 86 => ⟨S8x2048x16x1, .f32⟩
  | 87 => ⟨S8x2048x16x64, .f32⟩
  | 88 => ⟨S8x2048x16x64, .f32⟩
  | 89 => ⟨S1x1x1x64, .f32⟩
  | 90 => ⟨S8x2048x16x64, .f32⟩
  | 91 => ⟨S8x2048x16x64, .f32⟩
  | 92 => ⟨S8x2048x16x32, .f32⟩
  | 93 => ⟨S8x2048x16x32, .f32⟩
  | 94 => ⟨S1x2048x1x32, .f32⟩
  | 95 => ⟨S8x2048x16x32, .f32⟩
  | 96 => ⟨S8x2048x16x32, .f32⟩
  | 97 => ⟨S1x2048x1x32, .f32⟩
  | 98 => ⟨S8x2048x16x32, .f32⟩
  | 99 => ⟨S8x2048x16x32, .f32⟩
  | 100 => ⟨S8x2048x16x32, .f32⟩
  | 101 => ⟨S1x2048x1x32, .f32⟩
  | 102 => ⟨S8x2048x16x32, .f32⟩
  | 103 => ⟨S8x2048x16x32, .f32⟩
  | 104 => ⟨S1x2048x1x32, .f32⟩
  | 105 => ⟨S8x2048x16x32, .f32⟩
  | 106 => ⟨S8x2048x16x32, .f32⟩
  | 107 => ⟨S8x2048x16x32, .f32⟩
  | 108 => ⟨S8x2048x16x64, .f32⟩
  | 109 => ⟨S_, .f32⟩
  | 110 => ⟨S8x2048x16x64, .f32⟩
  | 111 => ⟨S8x2048x16x64, .f32⟩
  | 112 => ⟨S8x2048x4x64, .f32⟩
  | 113 => ⟨S64, .f32⟩
  | 114 => ⟨S8x2048x4x64, .f32⟩
  | 115 => ⟨S_, .f32⟩
  | 116 => ⟨S8x2048x4, .f32⟩
  | 117 => ⟨S8x2048x4x1, .f32⟩
  | 118 => ⟨S_, .f32⟩
  | 119 => ⟨S8x2048x4x1, .f32⟩
  | 120 => ⟨S8x2048x4x1, .f32⟩
  | 121 => ⟨S_, .f32⟩
  | 122 => ⟨S8x2048x4x1, .f32⟩
  | 123 => ⟨S8x2048x4x1, .f32⟩
  | 124 => ⟨S8x2048x4x1, .f32⟩
  | 125 => ⟨S8x2048x4x64, .f32⟩
  | 126 => ⟨S8x2048x4x64, .f32⟩
  | 127 => ⟨S1x1x1x64, .f32⟩
  | _ => ⟨S8x2048x1024, .f32⟩

abbrev hbmTy0_1 (i : Nat) : BufTy := match i % 128 with
  | 0 => ⟨S8x2048x4x64, .f32⟩
  | 1 => ⟨S8x2048x4x64, .f32⟩
  | 2 => ⟨S8x2048x4x32, .f32⟩
  | 3 => ⟨S8x2048x4x32, .f32⟩
  | 4 => ⟨S1x2048x1x32, .f32⟩
  | 5 => ⟨S8x2048x4x32, .f32⟩
  | 6 => ⟨S8x2048x4x32, .f32⟩
  | 7 => ⟨S1x2048x1x32, .f32⟩
  | 8 => ⟨S8x2048x4x32, .f32⟩
  | 9 => ⟨S8x2048x4x32, .f32⟩
  | 10 => ⟨S8x2048x4x32, .f32⟩
  | 11 => ⟨S1x2048x1x32, .f32⟩
  | 12 => ⟨S8x2048x4x32, .f32⟩
  | 13 => ⟨S8x2048x4x32, .f32⟩
  | 14 => ⟨S1x2048x1x32, .f32⟩
  | 15 => ⟨S8x2048x4x32, .f32⟩
  | 16 => ⟨S8x2048x4x32, .f32⟩
  | 17 => ⟨S8x2048x4x32, .f32⟩
  | 18 => ⟨S8x2048x4x64, .f32⟩
  | 19 => ⟨S8x2048x1024, .f32⟩
  | 20 => ⟨S8x1024x2048, .f32⟩
  | 21 => ⟨S8x1024x2048, .bf16⟩
  | 22 => ⟨S8x2048x256, .f32⟩
  | 23 => ⟨S8x2048x256, .bf16⟩
  | 24 => ⟨S8x256x2048, .f32⟩
  | 25 => ⟨S8x256x2048, .bf16⟩
  | 26 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_10 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_11 : Ref sig .tc := ⟨.hbm, 115, rfl⟩
abbrev main_v96 : Ref sig .tc := ⟨.hbm, 116, rfl⟩
abbrev main_v97 : Ref sig .tc := ⟨.hbm, 117, rfl⟩
abbrev main_cst_12 : Ref sig .tc := ⟨.hbm, 118, rfl⟩
abbrev main_v98 : Ref sig .tc := ⟨.hbm, 119, rfl⟩
abbrev main_v99 : Ref sig .tc := ⟨.hbm, 120, rfl⟩
abbrev main_cst_13 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩

abbrev nD : Nat := 1
abbrev τ : Topo := Topo.v7x

variable {F : FTy → Type} [FloatOps F]
-- ==== KernelCtx.lean ====
abbrev S8x256x1024 : Shape := ⟨3, ![8, 256, 1024]⟩
abbrev S1x1024 : Shape := ⟨2, ![1, 1024]⟩
abbrev S1x1024x4096 : Shape := ⟨3, ![1, 1024, 4096]⟩
abbrev S1x64 : Shape := ⟨2, ![1, 64]⟩
abbrev S1024x4096 : Shape := ⟨2, ![1024, 4096]⟩
abbrev S1024x512 : Shape := ⟨2, ![1024, 512]⟩
abbrev S512x1024 : Shape := ⟨2, ![512, 1024]⟩
abbrev S1024 : Shape := ⟨1, ![1024]⟩
abbrev S64 : Shape := ⟨1, ![64]⟩
abbrev S64x1 : Shape := ⟨2, ![64, 1]⟩
abbrev S64x256 : Shape := ⟨2, ![64, 256]⟩
abbrev S8x256x256 : Shape := ⟨3, ![8, 256, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S1x256 : Shape := ⟨2, ![1, 256]⟩
abbrev S256x256 : Shape := ⟨2, ![256, 256]⟩

abbrev nBuf : Space → Nat
  | .hbm => 17
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x64, .f32⟩
  | .hbm, ⟨6, _⟩ => ⟨S1024x4096, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024, .f32⟩
  | .hbm, ⟨11, _⟩ => ⟨S1x1024, .f32⟩
  | .hbm, ⟨12, _⟩ => ⟨S64, .f32⟩
  | .hbm, ⟨13, _⟩ => ⟨S64x1, .f32⟩
  | .hbm, ⟨14, _⟩ => ⟨S64x256, .f32⟩
  | .hbm, ⟨15, _⟩ => ⟨S8x256x256, .bf16⟩
  | .hbm, ⟨16, _⟩ => ⟨S8x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S64x256, .f32⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCtxIdeal.lean ====
abbrev S8x256x1024 : Shape := ⟨3, ![8, 256, 1024]⟩
abbrev S1x1024 : Shape := ⟨2, ![1, 1024]⟩
abbrev S1x1024x4096 : Shape := ⟨3, ![1, 1024, 4096]⟩
abbrev S1x64 : Shape := ⟨2, ![1, 64]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x4096 : Shape := ⟨2, ![1024, 4096]⟩
abbrev S1024x512 : Shape := ⟨2, ![1024, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S64 : Shape := ⟨1, ![64]⟩
abbrev S8x256x4 : Shape := ⟨3, ![8, 256, 4]⟩
abbrev S8x256x4x1 : Shape := ⟨4, ![8, 256, 4, 1]⟩
abbrev S1x1x1x64 : Shape := ⟨4, ![1, 1, 1, 64]⟩

abbrev nBuf : Space → Nat
  | .hbm => 59
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x64, .f32⟩
  | .hbm, ⟨6, _⟩ => ⟨S1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S1024x4096, .f32⟩
  | .hbm, ⟨33, _⟩ => ⟨S1024x512, .f32⟩
  | .hbm, ⟨34, _⟩ => ⟨S8x256x512, .f32⟩
  | .hbm, ⟨35, _⟩ => ⟨S8x256x256, .f32⟩
  | .hbm, ⟨36, _⟩ => ⟨S8x256x256, .f32⟩
  | .hbm, ⟨37, _⟩ => ⟨S8x256x4x64, .f32⟩
  | .hbm, ⟨38, _⟩ => ⟨S64, .f32⟩
  | .hbm, ⟨39, _⟩ => ⟨S8x256x4x64, .f32⟩
  | .hbm, ⟨40, _⟩ => ⟨S_, .f32⟩
  | .hbm, ⟨41, _⟩ => ⟨S8x256x4, .f32⟩
  | .hbm, ⟨42, _⟩ => ⟨S8x256x4x1, .f32⟩
  | .hbm, ⟨43, _⟩ => ⟨S_, .f32⟩
  | .hbm, ⟨44, _⟩ => ⟨S8x256x4x1, .f32⟩
  | .hbm, ⟨45, _⟩ => ⟨S8x256x4x1, .f32⟩
  | .hbm, ⟨46, _⟩ => ⟨S_, .f32⟩
  | .hbm, ⟨47, _⟩ => ⟨S8x256x4x1, .f32⟩
  | .hbm, ⟨48, _⟩ => ⟨S8x256x4x1, .f32⟩
  | .hbm, ⟨49, _⟩ => ⟨S8x256x4x1, .f32⟩
  | .hbm, ⟨50, _⟩ => ⟨S8x256x4x64, .f32⟩
  | .hbm, ⟨51, _⟩ => ⟨S8x256x4x64, .f32⟩
  | .hbm, ⟨52, _⟩ => ⟨S1x1x1x64, .f32⟩
  | .hbm, ⟨53, _⟩ => ⟨S8x256x4x64, .f32⟩
  | .hbm, ⟨54, _⟩ => ⟨S8x256x4x64, .f32⟩
  | .hbm, ⟨55, _⟩ => ⟨S8x256x256, .f32⟩
  | .hbm, ⟨56, _⟩ => ⟨S8x256x256, .bf16⟩
  | .hbm, ⟨57, _⟩ => ⟨S8x256x256, .f32⟩
  | .hbm, ⟨58, _⟩ => ⟨S8x256x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== KernelAdaln.lean ====
abbrev S16x1024 : Shape := ⟨2, ![16, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdalnIdeal.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x6144, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelFourier.lean ====
abbrev S8x2048x512 : Shape := ⟨3, ![8, 2048, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S128x256 : Shape := ⟨2, ![128, 256]⟩
abbrev S2048x4096 : Shape := ⟨2, ![2048, 4096]⟩
abbrev S1x2048x512 : Shape := ⟨3, ![1, 2048, 512]⟩
abbrev S512x4096 : Shape := ⟨2, ![512, 4096]⟩
abbrev S1x512x512 : Shape := ⟨3, ![1, 512, 512]⟩
abbrev S4096x512 : Shape := ⟨2, ![4096, 512]⟩
abbrev S1x2048x128 : Shape := ⟨3, ![1, 2048, 128]⟩
abbrev S2048x128 : Shape := ⟨2, ![2048, 128]⟩
abbrev S2048x256 : Shape := ⟨2, ![2048, 256]⟩
abbrev S512x512 : Shape := ⟨2, ![512, 512]⟩

abbrev nBuf : Space → Nat
  | .hbm => 81
  | .vmem => 8
  | .smem => 0
  | _ => 0

abbrev bufTy : (tb : Table) → Fin (tcTables nBuf tb) → BufTy
  | .hbm, ⟨0, _⟩ => ⟨S8x2048x512, .bf16⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S2048, .i32⟩
  | .hbm, ⟨39, _⟩ => ⟨S2048x1, .i32⟩
  | .hbm, ⟨40, _⟩ => ⟨S1x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S2048x2048, .i32⟩
  | .hbm, ⟨51, _⟩ => ⟨S2048x2048, .i32⟩
  | .hbm, ⟨52, _⟩ => ⟨S_, .i32⟩
  | .hbm, ⟨53, _⟩ => ⟨S2048x2048, .i32⟩
  | .hbm, ⟨54, _⟩ => ⟨S2048x2048, .i1⟩
  | .hbm, ⟨55, _⟩ => ⟨S_, .i32⟩
  | .hbm, ⟨56, _⟩ => ⟨S2048x2048, .i32⟩
  | .hbm, ⟨57, _⟩ => ⟨S2048x2048, .i1⟩
  | .hbm, ⟨58, _⟩ => ⟨S_, .i32⟩
  | .hbm, ⟨59, _⟩ => ⟨S_, .i1⟩
  | .hbm, ⟨60, _⟩ => ⟨S2048x2048, .i1⟩
  | .hbm, ⟨61, _⟩ => ⟨S2048x2048, .i1⟩
  | .hbm, ⟨62, _⟩ => ⟨S2048x2048, .i1⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S2048x2048, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S128x256, .f32⟩
  | .hbm, ⟨76, _⟩ => ⟨S2048x2048, .f32⟩
  | .hbm, ⟨77, _⟩ => ⟨S2048x4096, .f32⟩
  | .hbm, ⟨78, _⟩ => ⟨S128x256, .bf16⟩
  | .hbm, ⟨79, _⟩ => ⟨S2048x4096, .bf16⟩
  | .hbm, ⟨80, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S128x256, .bf16⟩
  | .local _ .vmem, ⟨3, _⟩ => ⟨S512x4096, .bf16⟩
  | .local _ .vmem, ⟨4, _⟩ => ⟨S512x4096, .bf16⟩
  | .local _ .vmem, ⟨5, _⟩ => ⟨S1x512x512, .bf16⟩
  | .local _ .vmem, ⟨6, _⟩ => ⟨S1x512x512, .bf16⟩
  | .local _ .vmem, ⟨7, _⟩ => ⟨S4096x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v20 : Ref sig .tc := ⟨.hbm, 65, rfl⟩
abbrev main_v21 : Ref sig .tc := ⟨.hbm, 66, rfl⟩
abbrev main_cst_2 : Ref sig .tc := ⟨.hbm, 67, rfl⟩
abbrev main_v22 : Ref sig .tc := ⟨.hbm, 68, rfl⟩
abbrev main_v23 : Ref sig .tc := ⟨.hbm, 69, rfl⟩
abbrev main_cst_3 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFourierIdeal.lean ====
abbrev S8x2048x512 : Shape := ⟨3, ![8, 2048, 512]⟩
abbrev S8x2048x4x128 : Shape := ⟨4, ![8, 2048, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x128x2048 : Shape := ⟨4, ![8, 4, 128, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x4x128, .bf16⟩
  | .hbm, ⟨2, _⟩ => ⟨S8x2048x4x128, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S2048, .i32⟩
  | .hbm, ⟨41, _⟩ => ⟨S2048x1, .i32⟩
  | .hbm, ⟨42, _⟩ => ⟨S1x2048, .i32⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i1⟩
  | .hbm, ⟨57, _⟩ => ⟨S_, .i32⟩
  | .hbm, ⟨58, _⟩ => ⟨S2048x2048, .i32⟩
  | .hbm, ⟨59, _⟩ => ⟨S2048x2048, .i1⟩
  | .hbm, ⟨60, _⟩ => ⟨S_, .i32⟩
  | .hbm, ⟨61, _⟩ => ⟨S_, .i1⟩
  | .hbm, ⟨62, _⟩ => ⟨S2048x2048, .i1⟩
  | .hbm, ⟨63, _⟩ => ⟨S2048x2048, .i1⟩
  | .hbm, ⟨64, _⟩ => ⟨S2048x2048, .i1⟩
  | .hbm, ⟨65, _⟩ => ⟨S2048x2048, .i32⟩
  | .hbm, ⟨66, _⟩ => ⟨S2048x2048, .i32⟩
  | .hbm, ⟨67, _⟩ => ⟨S2048x2048, .i32⟩
  | .hbm, ⟨68, _⟩ => ⟨S2048x2048, .f32⟩
  | .hbm, ⟨69, _⟩ => ⟨S_, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S8x2048x4x128, .f32⟩
  | .hbm, ⟨78, _⟩ => ⟨S8x2048x4x128, .f32⟩
  | .hbm, ⟨79, _⟩ => ⟨S8x2048x4x128, .f32⟩
  | .hbm, ⟨80, _⟩ => ⟨S8x4x128x2048, .f32⟩
  | .hbm, ⟨81, _⟩ => ⟨S8x2048x4x128, .f32⟩
  | .hbm, ⟨82, _⟩ => ⟨S8x4x128x2048, .f32⟩
  | .hbm, ⟨83, _⟩ => ⟨S8x2048x4x128, .f32⟩
  | .hbm, ⟨84, _⟩ => ⟨S8x2048x4x128, .f32⟩
  | .hbm, ⟨85, _⟩ => ⟨S_, .f32⟩
  | .hbm, ⟨86, _⟩ => ⟨S8x2048x4x128, .f32⟩
  | .hbm, ⟨87, _⟩ => ⟨S8x2048x4x128, .f32⟩
  | .hbm, ⟨88, _⟩ => ⟨S8x2048x512, .f32⟩
  | .hbm, ⟨89, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_cst_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_1 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v22 : Ref sig .tc := ⟨.hbm, 67, rfl⟩
abbrev main_v23 : Ref sig .tc := ⟨.hbm, 68, rfl⟩
abbrev main_cst_2 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_4 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩

abbrev nD : Nat := 1
abbrev τ : Topo := Topo.v7x

variable {F : FTy → Type} [FloatOps F]
-- ==== Proof.AttnStages.lean ====
/- The attention call, cut into stages on both sides. The reference: scores, exponentials, weighted values. The kernel: one
   head's scores against the latent rows and against the context rows, one head's output, and the four heads stacked. This file
   states that each side's composed term is its stages, one after the other. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- Stage 1 of the reference: the scores of every head, over the context rows and then the latent rows. -/
def scores (q : FVec Ideal Cert.ReferenceIdeal.S8x1024x2048 .bf16) (k : FVec Ideal Cert.ReferenceIdeal.S8x2048x256 .bf16) (kc : FVec Ideal Cert.ReferenceIdeal.S8x256x256 .bf16) : FVec Ideal Cert.ReferenceIdeal.S8x4x4x2048x2304 .f32 :=
  transpose Cert.ReferenceIdeal.S8x4x4x2048x2304 [0, 1, 4, 3, 2] (Host.dotGeneral Cert.ReferenceIdeal.dot_S8x2304x4x64_S8x2048x4x4x64_S8x4x2304x2048x4_3_4_1_13_02_02 none
    (shapeCast _ (concatenate Cert.ReferenceIdeal.S8x2304x256 1 [⟨Cert.ReferenceIdeal.S8x256x256, (extf .f32 kc Cert.ReferenceIdeal.Gen.bitsLt_bf16_f32)⟩, ⟨Cert.ReferenceIdeal.S8x2048x256, (extf .f32 k Cert.ReferenceIdeal.Gen.bitsLt_bf16_f32)⟩] Cert.ReferenceIdeal.Gen.concatenates_S8x256x256_S8x2048x256_S8x2304x256_d1) Cert.ReferenceIdeal.Gen.shapeCasts_S8x2304x256_S8x2304x4x64)
    (shapeCast _ (transpose Cert.ReferenceIdeal.S8x2048x1024 [0, 2, 1] (extf .f32 q Cert.ReferenceIdeal.Gen.bitsLt_bf16_f32) Cert.ReferenceIdeal.Gen.transposes_S8x1024x2048_S8x2048x1024_0_2_1) Cert.ReferenceIdeal.Gen.shapeCasts_S8x2048x1024_S8x2048x4x4x64)) Cert.ReferenceIdeal.Gen.transposes_S8x4x2304x2048x4_S8x4x4x2048x2304_0_1_4_3_2

/-- Stage 2a of the reference: the greatest score of each row. -/
def rowMax (s : FVec Ideal Cert.ReferenceIdeal.S8x4x4x2048x2304 .f32) : FVec Ideal Cert.ReferenceIdeal.S8x4x4x2048 .f32 :=
  Host.reduce FloatOps.maximumf s (constant (F := Ideal) Cert.ReferenceIdeal.S_ .f32 0xFF800000#32) Cert.ReferenceIdeal.Gen.reducesTo_S8x4x4x2048x2304_S8x4x4x2048_d4 Cert.ReferenceIdeal.Gen.h_S_

/-- Stage 2b of the reference: the exponential of each score less its row's greatest. -/
def expScores (s : FVec Ideal Cert.ReferenceIdeal.S8x4x4x2048x2304 .f32) (mm : FVec Ideal Cert.ReferenceIdeal.S8x4x4x2048 .f32) : FVec Ideal Cert.ReferenceIdeal.S8x4x4x2048x2304 .f32 :=
  Host.exp (subf s (broadcastInDim Cert.ReferenceIdeal.S8x4x4x2048x2304 ![0, 1, 2, 3, 4] Cert.ReferenceIdeal.Gen.bcast_S8x4x4x2048x1_S8x4x4x2048x2304_0_1_2_3_4 (broadcastInDim Cert.ReferenceIdeal.S8x4x4x2048x1 ![0, 1, 2, 3] Cert.ReferenceIdeal.Gen.bcast_S8x4x4x2048_S8x4x4x2048x1_0_1_2_3
      (maximumf (broadcastInDim Cert.ReferenceIdeal.S8x4x4x2048 ![] Cert.ReferenceIdeal.Gen.bcast_S_S8x4x4x2048 (constant Cert.ReferenceIdeal.S_ .f32 0xFF800000#32)) mm))))

/-- Stage 3 of the reference: the normalised weights, and their sums over the values. -/
def weighted (e : FVec Ideal Cert.ReferenceIdeal.S8x4x4x2048x2304 .f32) (v : FVec Ideal Cert.ReferenceIdeal.S8x256x2048 .bf16) (vc : FVec Ideal Cert.ReferenceIdeal.S8x256x256 .bf16) : FVec Ideal Cert.ReferenceIdeal.S8x2048x1024 .bf16 :=
  truncf .bf16 (shapeCast _ (transpose Cert.ReferenceIdeal.S8x2048x4x4x64 [0, 4, 1, 3, 2] (Host.dotGeneral Cert.ReferenceIdeal.dot_S8x2304x4x64_S8x4x4x2048x2304_S8x4x64x4x2048_1_4_3_23_02_01 none
    (shapeCast _ (concatenate Cert.ReferenceIdeal.S8x2304x256 1 [⟨Cert.ReferenceIdeal.S8x256x256, (transpose Cert.ReferenceIdeal.S8x256x256 [0, 2, 1] (extf .f32 vc Cert.ReferenceIdeal.Gen.bitsLt_bf16_f32) Cert.ReferenceIdeal.Gen.transposes_S8x256x256_S8x256x256_0_2_1)⟩, ⟨Cert.ReferenceIdeal.S8x2048x256, (transpose Cert.ReferenceIdeal.S8x2048x256 [0, 2, 1] (extf .f32 v Cert.ReferenceIdeal.Gen.bitsLt_bf16_f32) Cert.ReferenceIdeal.Gen.transposes_S8x256x2048_S8x2048x256_0_2_1)⟩] Cert.ReferenceIdeal.Gen.concatenates_S8x256x256_S8x2048x256_S8x2304x256_d1) Cert.ReferenceIdeal.Gen.shapeCasts_S8x2304x256_S8x2304x4x64)
    (Host.divf e (broadcastInDim Cert.ReferenceIdeal.S8x4x4x2048x2304 ![0, 1, 2, 3, 4] Cert.ReferenceIdeal.Gen.bcast_S8x4x4x2048x1_S8x4x4x2048x2304_0_1_2_3_4 (broadcastInDim Cert.ReferenceIdeal.S8x4x4x2048x1 ![0, 1, 2, 3] Cert.ReferenceIdeal.Gen.bcast_S8x4x4x2048_S8x4x4x2048x1_0_1_2_3
      (Host.reduceAdd e (constant Cert.ReferenceIdeal.S_ .f32 0x00000000#32) Cert.ReferenceIdeal.Gen.reducesTo_S8x4x4x2048x2304_S8x4x4x2048_d4 Cert.ReferenceIdeal.Gen.h_S_))))) Cert.ReferenceIdeal.Gen.transposes_S8x4x64x4x2048_S8x2048x4x4x64_0_4_1_3_2) Cert.ReferenceIdeal.Gen.shapeCasts_S8x2048x4x4x64_S8x2048x1024) Cert.ReferenceIdeal.Gen.bitsLt_bf16_f32

/-- The reference: the stages one after the other. -/
def attended (q : FVec Ideal Cert.ReferenceIdeal.S8x1024x2048 .bf16) (k : FVec Ideal Cert.ReferenceIdeal.S8x2048x256 .bf16) (kc : FVec Ideal Cert.ReferenceIdeal.S8x256x256 .bf16) (v : FVec Ideal Cert.ReferenceIdeal.S8x256x2048 .bf16) (vc : FVec Ideal Cert.ReferenceIdeal.S8x256x256 .bf16) : FVec Ideal Cert.ReferenceIdeal.S8x2048x1024 .bf16 :=
  weighted (expScores (scores q k kc) (rowMax (scores q k kc))) v vc

/-- The reference's composed term is its stages, one after the other. -/
theorem reference_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m c = attended (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) := by
  unfold Cert.ReferenceIdeal.Value.res_out0 Cert.ReferenceIdeal.Value.res_main_v29 attended weighted expScores rowMax scores
  rfl

/-- One head's query block laid out for the product with the stored keys: repeated in the four row groups, and zero outside the
    group the mask selects. -/
def queryK (M : IVec S256x256 1) (q : FVec Ideal S1x64x256 .bf16) : FVec Ideal S256x256 .bf16 :=
  truncf .bf16 (select M (concatenate S256x256 0 [⟨S64x256, extf .f32 (shapeCast S64x256 q shapeCasts_S1x64x256_S64x256) bitsLt_bf16_f32⟩, ⟨S64x256, extf .f32 (shapeCast S64x256 q shapeCasts_S1x64x256_S64x256) bitsLt_bf16_f32⟩, ⟨S64x256, extf .f32 (shapeCast S64x256 q shapeCasts_S1x64x256_S64x256) bitsLt_bf16_f32⟩, ⟨S64x256, extf .f32 (shapeCast S64x256 q shapeCasts_S1x64x256_S64x256) bitsLt_bf16_f32⟩] concatenates_S64x256_S64x256_S64x256_S64x256_S256x256_d0) (broadcast S256x256 (Scalar.ofBits .f32 0x00000000#32 : Ideal .f32))) bitsLt_bf16_f32

/-- The kernel's scores of one head against the latent rows. -/
def latK (M : IVec S256x256 1) (k : FVec Ideal S2048x256 .bf16) (q : FVec Ideal S1x64x256 .bf16) : FVec Ideal S2048x256 .f32 :=
  matmul dot_S2048x256_S256x256_S2048x256_1_0_0_1_n_n none k (queryK M q) (constant S2048x256 .f32 0x00000000#32)

/-- The kernel's scores of one head against the context rows. -/
def ctxK (M : IVec S256x256 1) (kc : FVec Ideal S256x256 .bf16) (q : FVec Ideal S1x64x256 .bf16) : FVec Ideal S256x256 .f32 :=
  matmul dot_S256x256_S256x256_S256x256_1_0_0_1_n_n none kc (queryK M q) (constant S256x256 .f32 0x00000000#32)

/-- The greatest score of each query, over both sets of rows. -/
def maxK (sl : FVec Ideal S2048x256 .f32) (sc : FVec Ideal S256x256 .f32) : FVec Ideal S1x256 .f32 :=
  maximumf (shapeCast S1x256 (multiReduction .maximumf [0] S256 sl 0xFF800000#32 reduces_S2048x256_S256 (.inl rfl) rfl) shapeCasts_S256_S1x256)
    (shapeCast S1x256 (multiReduction .maximumf [0] S256 sc 0xFF800000#32 reduces_S256x256_S256 (.inl rfl) rfl) shapeCasts_S256_S1x256)

/-- The products of the extended values (the values over rows of ones) with the exponentials: the numerators, and in row 64 the
    denominators. -/
def prodK (v : FVec Ideal S80x2048 .bf16) (vc : FVec Ideal S80x256 .bf16) (sl : FVec Ideal S2048x256 .f32) (sc : FVec Ideal S256x256 .f32) (mx : FVec Ideal S1x256 .f32) : FVec Ideal S80x256 .f32 :=
  addf (matmul dot_S80x2048_S2048x256_S80x256_1_0_0_1_n_n none v (truncf .bf16 (exp (subf sl (broadcastTo S2048x256 mx broadcasts_S1x256_S2048x256))) bitsLt_bf16_f32) (constant S80x256 .f32 0x00000000#32))
    (matmul dot_S80x256_S256x256_S80x256_1_0_0_1_n_n none vc (truncf .bf16 (exp (subf sc (broadcastTo S256x256 mx broadcasts_S1x256_S256x256))) bitsLt_bf16_f32) (constant S80x256 .f32 0x00000000#32))

/-- One head's output: the numerators over the denominators. -/
def quotK (p : FVec Ideal S80x256 .f32) : FVec Ideal S64x256 .f32 :=
  divf (extractStridedSlice S64x256 ![0, 0] p slices_S80x256_o0_0_S64x256) (broadcastTo S64x256 (extractStridedSlice S1x256 ![64, 0] p slices_S80x256_o64_0_S1x256) broadcasts_S1x256_S64x256)

/-- One head's output from the mask, the keys, the extended values and the head's query block. -/
def headK (M : IVec S256x256 1) (k : FVec Ideal S2048x256 .bf16) (kc : FVec Ideal S256x256 .bf16) (v : FVec Ideal S80x2048 .bf16) (vc : FVec Ideal S80x256 .bf16) (q : FVec Ideal S1x64x256 .bf16) : FVec Ideal S64x256 .f32 :=
  quotK (prodK v vc (latK M k q) (ctxK M kc q) (maxK (latK M k q) (ctxK M kc q)))

/-- The four heads of a group stacked, then turned so that a row is a query. -/
def stackK (a b c d : FVec Ideal S64x256 .f32) : FVec Ideal S1x256x256 .bf16 :=
  shapeCast S1x256x256 (truncf .bf16 (transpose S256x256 [1, 0] (concatenate S256x256 0 [⟨S64x256, a⟩, ⟨S64x256, b⟩, ⟨S64x256, c⟩, ⟨S64x256, d⟩] concatenates_S64x256_S64x256_S64x256_S64x256_S256x256_d0) transposes_S256x256_p1_0_S256x256) bitsLt_bf16_f32) shapeCasts_S256x256_S1x256x256

/-- The stored payload is the four heads' outputs, stacked. -/
theorem payload_eq (M : IVec S256x256 1) (k : FVec Ideal S2048x256 .bf16) (kc : FVec Ideal S256x256 .bf16) (v : FVec Ideal S80x2048 .bf16) (vr : FVec Ideal S64x256 .bf16) (a b c d : FVec Ideal S1x64x256 .bf16) :
    k0_pay1 (F := Ideal) M k kc v (k0_pay7 vr) (k0_pay8 M k kc v vr a) (k0_pay13 v (k0_pay7 vr) (k0_pay10 M k b) (k0_pay11 M kc b) (k0_pay12 M k b)) (k0_pay14 M k kc v (k0_pay7 vr) c) d
      = stackK (headK M k kc v (k0_pay7 vr) a) (headK M k kc v (k0_pay7 vr) b) (headK M k kc v (k0_pay7 vr) c) (headK M k kc v (k0_pay7 vr) d) := rfl

end Cert.KernelIdeal.RefValue

end
-- ==== Proof.AttnMath.lean ====
/- Facts about the extended reals that the attention call's proof uses: sums and maxima of reals are real, a sum or a
   maximum over joined index ranges splits, a sum whose terms vanish outside one group is the group's sum, and a weighted sum
   divided once at the end is the sum with normalised weights. -/
module

public import Idealize.ShloMosaic.Lib.Pointwise
public import Idealize.ShloMosaic.Lib.Pipeline.ValueKit

@[expose] public section

noncomputable section

open Idealize.ShloMosaic

namespace Cert.AttnMath

/-- An extended real that is a real number. -/
def IsReal (x : EReal) : Prop := ∃ r : ℝ, x = (r : EReal)

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The fold of `max` from the bottom is the supremum. -/
theorem fold_max_eq_sup {ι : Type} (s : Finset ι) (f : ι → EReal) : s.fold max ⊥ f = s.sup f := rfl

/-- The maximum of finitely many reals, at least one, is real. -/
theorem isReal_fold_max {n : ℕ} (hn : 0 < n) (f : Fin n → EReal) (h : ∀ i, IsReal (f i)) :
    IsReal ((Finset.univ : Finset (Fin n)).fold max ⊥ f) := by
  rw [fold_max_eq_sup]
  obtain ⟨i, -, hi⟩ := Finset.exists_mem_eq_sup (Finset.univ : Finset (Fin n)) ⟨⟨0, hn⟩, Finset.mem_univ _⟩ f
  rw [hi]
  exact h i

/-- A maximum over a joined range is the maximum of the two parts' maxima. -/
theorem fold_max_join {a b n : ℕ} (hn : n = a + b) (f : Fin n → EReal) :
    (Finset.univ : Finset (Fin n)).fold max ⊥ f
      = max ((Finset.univ : Finset (Fin b)).fold max ⊥ fun s => f ⟨a + s.val, by omega⟩)
          ((Finset.univ : Finset (Fin a)).fold max ⊥ fun s => f ⟨s.val, by omega⟩) := by
  subst hn
  simp only [fold_max_eq_sup]
  apply le_antisymm
  · refine Finset.sup_le fun t _ => ?_
    by_cases ht : t.val < a
    · exact le_max_of_le_right (Finset.le_sup (f := fun s : Fin a => f ⟨s.val, by omega⟩) (Finset.mem_univ ⟨t.val, ht⟩))
    · refine le_max_of_le_left (le_trans (le_of_eq ?_)
        (Finset.le_sup (f := fun s : Fin b => f ⟨a + s.val, by omega⟩) (Finset.mem_univ ⟨t.val - a, by omega⟩)))
      exact congrArg f (Fin.ext (by simp only; omega))
  · refine max_le (Finset.sup_le fun s _ => ?_) (Finset.sup_le fun s _ => ?_)
    · exact Finset.le_sup (f := f) (Finset.mem_univ _)
    · exact Finset.le_sup (f := f) (Finset.mem_univ _)

/-- A sum over a joined range is the sum of the two parts' sums, the second part first. -/
theorem sum_join {a b n : ℕ} (hn : n = a + b) (f : Fin n → EReal) :
    ∑ t, f t = ∑ s : Fin b, f ⟨a + s.val, by omega⟩ + ∑ s : Fin a, f ⟨s.val, by omega⟩ := by
  subst hn
  rw [Fin.sum_univ_add, add_comm]
  rfl

/-- A sum over 256 rows whose terms vanish outside the 64 rows of group `g` is the sum over that group. -/
theorem sum_group (g : Fin 4) (F : Fin 256 → EReal) (G : Fin 64 → EReal)
    (h0 : ∀ j : Fin 256, j.val / 64 ≠ g.val → F j = 0)
    (h1 : ∀ d : Fin 64, F ⟨g.val * 64 + d.val, by omega⟩ = G d) : ∑ j, F j = ∑ d, G d := by
  symm
  refine Finset.sum_of_injOn (fun d : Fin 64 => (⟨g.val * 64 + d.val, by omega⟩ : Fin 256)) ?_ ?_ ?_ ?_
  · intro x _ y _ hxy
    have := congrArg Fin.val hxy
    simp only at this
    exact Fin.ext (by omega)
  · intro x _
    simp
  · intro j _ hj
    refine h0 j fun hg => hj ⟨⟨j.val % 64, by omega⟩, by simp, Fin.ext (by simp only; omega)⟩
  · intro d _
    exact (h1 d).symm

/-- A nonnegative real factor may be taken into a finite sum, whatever the terms are. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The exponential of a difference of reals is a positive real. -/
theorem exp_sub_pos {x y : EReal} (hx : IsReal x) (hy : IsReal y) : ∃ p : ℝ, 0 < p ∧ Ideal.exp (x - y) = (p : EReal) := by
  obtain ⟨a, rfl⟩ := hx
  obtain ⟨b, rfl⟩ := hy
  exact ⟨Real.exp (a - b), Real.exp_pos _, by rw [← EReal.coe_sub, Ideal.exp_coe]⟩

/-- The sum of reals, read in the extended reals, is the extended reals' sum. -/
theorem coe_sum {ι : Type} (s : Finset ι) (p : ι → ℝ) : ((∑ i ∈ s, p i : ℝ) : EReal) = ∑ i ∈ s, (p i : EReal) := by
  classical
  induction s using Finset.induction_on with
  | empty => simp
  | insert a s ha ih => rw [Finset.sum_insert ha, Finset.sum_insert ha, EReal.coe_add, ih]

/-- A nonempty finite sum of positive reals is a positive real. -/
theorem sum_pos {n : ℕ} (hn : 0 < n) (e : Fin n → EReal) (he : ∀ t, ∃ p : ℝ, 0 < p ∧ e t = (p : EReal)) :
    ∃ l : ℝ, 0 < l ∧ ∑ t, e t = (l : EReal) := by
  choose p hp hpe using he
  refine ⟨∑ t, p t, Finset.sum_pos (fun t _ => hp t) ⟨⟨0, hn⟩, Finset.mem_univ _⟩, ?_⟩
  rw [coe_sum]
  exact Finset.sum_congr rfl fun t _ => hpe t

/-- Normalising at the end is normalising the weights: with positive real weights `e`, the weighted sum of any values over a
    joined range, divided by the sum of the weights, is the sum of the values times the normalised weights. -/
theorem weighted_join {a b n : ℕ} (hn : n = a + b) (hpos : 0 < n) (e v : Fin n → EReal)
    (he : ∀ t, ∃ p : ℝ, 0 < p ∧ e t = (p : EReal)) :
    Ideal.div (∑ s : Fin b, v ⟨a + s.val, by omega⟩ * e ⟨a + s.val, by omega⟩ + ∑ s : Fin a, v ⟨s.val, by omega⟩ * e ⟨s.val, by omega⟩)
        (∑ s : Fin b, e ⟨a + s.val, by omega⟩ + ∑ s : Fin a, e ⟨s.val, by omega⟩)
      = ∑ s : Fin a, v ⟨s.val, by omega⟩ * Ideal.div (e ⟨s.val, by omega⟩) (∑ t, e t)
        + ∑ s : Fin b, v ⟨a + s.val, by omega⟩ * Ideal.div (e ⟨a + s.val, by omega⟩) (∑ t, e t) := by
  rw [← sum_join hn e]
  obtain ⟨l, hl, hle⟩ := sum_pos hpos e he
  have hl' : (0 : ℝ) ≤ 1 / l := by positivity
  simp only [hle, Ideal.div_coe hl.ne']
  rw [EReal.right_distrib_of_nonneg_of_ne_top (EReal.coe_nonneg.2 hl') (EReal.coe_ne_top _), sum_mul_real _ _ _ hl', sum_mul_real _ _ _ hl', add_comm]
  simp only [mul_assoc]

/-- The value of the word of minus infinity. -/
theorem ofBits_neg_inf : Ideal.ofBits FTy.f32 4286578688#32 = ⊥ := by
  simp [Ideal.ofBits, Ideal.ieee]

end Cert.AttnMath

end
-- ==== Proof.AttnParts.lean ====
/- The attention call's stages read at an index: each stage of the reference and of the kernel as a sum, a maximum or a
   quotient of elements of the stage before it. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import Idealize.ShloMosaic.Lib.Claim
public import proofs.«01_k».proof.Proof.AttnStages
public import proofs.«01_k».proof.Proof.AttnMath

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttnMath

/-- A reference score against a context row: the product over the head's 64 columns. -/
theorem scores_ctx (q : FVec Ideal Cert.ReferenceIdeal.S8x1024x2048 .bf16) (k : FVec Ideal Cert.ReferenceIdeal.S8x2048x256 .bf16) (kc : FVec Ideal Cert.ReferenceIdeal.S8x256x256 .bf16)
    (b : Fin 8) (g h : Fin 4) (r : Fin 2048) (s : Fin 256) :
    scores q k kc (ix5 b g h r ⟨s.val, by omega⟩) = ∑ d : Fin 64, kc (ix3 b s ⟨g.val * 64 + d.val, by omega⟩) * q (ix3 b ⟨g.val * 256 + h.val * 64 + d.val, by omega⟩ r) := by
  pointwise [scores]

/-- A reference score against a latent row: the product over the head's 64 columns. -/
theorem scores_lat (q : FVec Ideal Cert.ReferenceIdeal.S8x1024x2048 .bf16) (k : FVec Ideal Cert.ReferenceIdeal.S8x2048x256 .bf16) (kc : FVec Ideal Cert.ReferenceIdeal.S8x256x256 .bf16)
    (b : Fin 8) (g h : Fin 4) (r : Fin 2048) (s : Fin 2048) :
    scores q k kc (ix5 b g h r ⟨256 + s.val, by omega⟩) = ∑ d : Fin 64, k (ix3 b s ⟨g.val * 64 + d.val, by omega⟩) * q (ix3 b ⟨g.val * 256 + h.val * 64 + d.val, by omega⟩ r) := by
  pointwise [scores]

/-- With real queries and keys every score is real. -/
theorem scores_real (q : FVec Ideal Cert.ReferenceIdeal.S8x1024x2048 .bf16) (k : FVec Ideal Cert.ReferenceIdeal.S8x2048x256 .bf16) (kc : FVec Ideal Cert.ReferenceIdeal.S8x256x256 .bf16) (hq : ∀ j, IsReal (q j)) (hk : ∀ j, IsReal (k j)) (hkc : ∀ j, IsReal (kc j))
    (b : Fin 8) (g h : Fin 4) (r : Fin 2048) (t : Fin 2304) : IsReal (scores q k kc (ix5 b g h r t)) := by
  by_cases ht : t.val < 256
  · exact (congrArg IsReal (scores_ctx q k kc b g h r ⟨t.val, ht⟩)).mpr (isReal_sum _ _ fun d => (hkc _).mul (hq _))
  · have e : t = ⟨256 + (t.val - 256), by omega⟩ := Fin.ext (by simp only; omega)
    rw [e]
    exact (congrArg IsReal (scores_lat q k kc b g h r ⟨t.val - 256, by omega⟩)).mpr (isReal_sum _ _ fun d => (hk _).mul (hq _))

/-- A reference row's greatest score. -/
theorem rowMax_at (s : FVec Ideal Cert.ReferenceIdeal.S8x4x4x2048x2304 .f32) (b : Fin 8) (g h : Fin 4) (r : Fin 2048) :
    rowMax s (ix4 b g h r) = Finset.univ.fold max ⊥ fun t => s (ix5 b g h r t) := by
  pointwise [rowMax]
  rw [ofBits_neg_inf]

/-- A reference exponential. -/
theorem expScores_at (s : FVec Ideal Cert.ReferenceIdeal.S8x4x4x2048x2304 .f32) (mm : FVec Ideal Cert.ReferenceIdeal.S8x4x4x2048 .f32) (b : Fin 8) (g h : Fin 4) (r : Fin 2048) (t : Fin 2304) :
    expScores s mm (ix5 b g h r t) = Ideal.exp (s (ix5 b g h r t) - mm (ix4 b g h r)) := by
  pointwise [expScores]
  rw [ofBits_neg_inf, max_eq_right bot_le]

/-- A reference result: the values times the normalised weights, over the context rows and the latent rows. -/
theorem weighted_at (e : FVec Ideal Cert.ReferenceIdeal.S8x4x4x2048x2304 .f32) (v : FVec Ideal Cert.ReferenceIdeal.S8x256x2048 .bf16) (vc : FVec Ideal Cert.ReferenceIdeal.S8x256x256 .bf16)
    (b : Fin 8) (r : Fin 2048) (n : Fin 1024) :
    weighted e v vc (ix3 b r n)
      = ∑ s : Fin 256, vc (ix3 b ⟨n.val / 256 * 64 + n.val % 64, by omega⟩ s) * Ideal.div (e (ix5 b ⟨n.val / 256, by omega⟩ ⟨n.val / 64 % 4, by omega⟩ r ⟨s.val, by omega⟩)) (∑ t, e (ix5 b ⟨n.val / 256, by omega⟩ ⟨n.val / 64 % 4, by omega⟩ r t))
        + ∑ s : Fin 2048, v (ix3 b ⟨n.val / 256 * 64 + n.val % 64, by omega⟩ s) * Ideal.div (e (ix5 b ⟨n.val / 256, by omega⟩ ⟨n.val / 64 % 4, by omega⟩ r ⟨256 + s.val, by omega⟩)) (∑ t, e (ix5 b ⟨n.val / 256, by omega⟩ ⟨n.val / 64 % 4, by omega⟩ r t)) := by
  pointwise [weighted]

/-- The values of one column over the context rows and then the latent rows. -/
def column (v : FVec Ideal Cert.ReferenceIdeal.S8x256x2048 .bf16) (vc : FVec Ideal Cert.ReferenceIdeal.S8x256x256 .bf16) (b : Fin 8) (w : Fin 256) (t : Fin 2304) : EReal :=
  if h : t.val < 256 then vc (ix3 b w ⟨t.val, h⟩) else v (ix3 b w ⟨t.val - 256, by omega⟩)

/-- The column at a context row. -/
theorem column_ctx (v : FVec Ideal Cert.ReferenceIdeal.S8x256x2048 .bf16) (vc : FVec Ideal Cert.ReferenceIdeal.S8x256x256 .bf16) (b : Fin 8) (w : Fin 256) (s : Fin 256) : column v vc b w ⟨s.val, by omega⟩ = vc (ix3 b w s) :=
  dif_pos s.isLt

/-- The column at a latent row. -/
theorem column_lat (v : FVec Ideal Cert.ReferenceIdeal.S8x256x2048 .bf16) (vc : FVec Ideal Cert.ReferenceIdeal.S8x256x256 .bf16) (b : Fin 8) (w : Fin 256) (s : Fin 2048) : column v vc b w ⟨256 + s.val, by omega⟩ = v (ix3 b w s) := by
  refine (dif_neg (by simp only; omega)).trans (congrArg (fun z => v (ix3 b w z)) (Fin.ext (by simp only; omega)))

/-- One query's attention over scores `S` and values `V`: the values times the exponentials' shares. -/
def softmaxSum (S V : Fin 2304 → EReal) : EReal :=
  ∑ s : Fin 256, V ⟨s.val, by omega⟩ * Ideal.div (Ideal.exp (S ⟨s.val, by omega⟩ - Finset.univ.fold max ⊥ S)) (∑ t, Ideal.exp (S t - Finset.univ.fold max ⊥ S))
        + ∑ s : Fin 2048, V ⟨256 + s.val, by omega⟩ * Ideal.div (Ideal.exp (S ⟨256 + s.val, by omega⟩ - Finset.univ.fold max ⊥ S)) (∑ t, Ideal.exp (S t - Finset.univ.fold max ⊥ S))

/-- The reference's result at an index is the attention of its row's scores over its column's values. -/
theorem attended_at (q : FVec Ideal Cert.ReferenceIdeal.S8x1024x2048 .bf16) (k : FVec Ideal Cert.ReferenceIdeal.S8x2048x256 .bf16) (kc : FVec Ideal Cert.ReferenceIdeal.S8x256x256 .bf16) (v : FVec Ideal Cert.ReferenceIdeal.S8x256x2048 .bf16) (vc : FVec Ideal Cert.ReferenceIdeal.S8x256x256 .bf16) (b : Fin 8) (r : Fin 2048) (n : Fin 1024) :
    attended q k kc v vc (ix3 b r n)
      = softmaxSum (fun t => scores q k kc (ix5 b ⟨n.val / 256, by omega⟩ ⟨n.val / 64 % 4, by omega⟩ r t)) (column v vc b ⟨n.val / 256 * 64 + n.val % 64, by omega⟩) := by
  unfold attended
  rw [weighted_at]
  unfold softmaxSum
  simp only [expScores_at, rowMax_at, column_ctx, column_lat]

/-- The mask selects the 64 rows of the point's group. -/
theorem mask_at (i : grid0.Coords) (g : Fin 4) (hg : (i 1).val = g.val) (j r : Fin 256) :
    k0_pay2 i (ix2 j r) = if j.val / 64 = g.val then 1#1 else 0#1 := by
  pointwise [k0_pay2]
  rw [hg]
  clear hg i r
  revert j g
  decide +kernel

/-- A product with the laid-out query block is the product over the group's 64 rows, for any row of keys. -/
theorem query_sum (M : IVec S256x256 1) (g : Fin 4) (r : Fin 256) (hM : ∀ j : Fin 256, M (ix2 j r) = if j.val / 64 = g.val then 1#1 else 0#1)
    (kr : Fin 256 → EReal) (q : FVec Ideal S1x64x256 .bf16) :
    ∑ x : Fin 256, kr x * queryK M q (ix2 x r) = ∑ d : Fin 64, kr ⟨g.val * 64 + d.val, by omega⟩ * q (ix3 0 d r) := by
  refine sum_group g _ _ (fun j hj => ?_) fun d => ?_
  · pointwise [queryK]
    rw [hM, if_neg hj]
    simp [Scalar.select]
  · pointwise [queryK]
    rw [hM, if_pos (by simp only; omega)]
    simp only [Scalar.select]
    rcases g with ⟨g, hg⟩
    interval_cases g <;> simp
    all_goals
      repeat' first | rw [dif_neg (by omega)] | rw [dif_pos (by omega)]
      exact congrArg (fun w => kr _ * q (ix3 0 w r)) (Fin.ext (by simp only; omega))

/-- The kernel's scores against the latent rows, as sums. -/
theorem lat_at (M : IVec S256x256 1) (k : FVec Ideal S2048x256 .bf16) (q : FVec Ideal S1x64x256 .bf16) (s : Fin 2048) (r : Fin 256) :
    latK M k q (ix2 s r) = ∑ x : Fin 256, k (ix2 s x) * queryK M q (ix2 x r) := by
  pointwise [latK]

/-- The kernel's scores against the context rows, as sums. -/
theorem ctx_at (M : IVec S256x256 1) (k : FVec Ideal S256x256 .bf16) (q : FVec Ideal S1x64x256 .bf16) (s : Fin 256) (r : Fin 256) :
    ctxK M k q (ix2 s r) = ∑ x : Fin 256, k (ix2 s x) * queryK M q (ix2 x r) := by
  pointwise [ctxK]

/-- The kernel's greatest score of a query. -/
theorem max_at (sl : FVec Ideal S2048x256 .f32) (sc : FVec Ideal S256x256 .f32) (z : Fin 1) (r : Fin 256) :
    maxK sl sc (ix2 z r) = max (Finset.univ.fold max ⊥ fun x => sl (ix2 x r)) (Finset.univ.fold max ⊥ fun x => sc (ix2 x r)) := by
  pointwise [maxK]
  rw [ofBits_neg_inf]

/-- The kernel's products with the exponentials. -/
theorem prod_at (v : FVec Ideal S80x2048 .bf16) (vc : FVec Ideal S80x256 .bf16) (sl : FVec Ideal S2048x256 .f32) (sc : FVec Ideal S256x256 .f32) (mx : FVec Ideal S1x256 .f32) (d : Fin 80) (r : Fin 256) :
    prodK v vc sl sc mx (ix2 d r) = ∑ x, v (ix2 d x) * Ideal.exp (sl (ix2 x r) - mx (ix2 0 r)) + ∑ x, vc (ix2 d x) * Ideal.exp (sc (ix2 x r) - mx (ix2 0 r)) := by
  pointwise [prodK]

/-- The kernel's quotient. -/
theorem quot_at (p : FVec Ideal S80x256 .f32) (d : Fin 64) (r : Fin 256) : quotK p (ix2 d r) = Ideal.div (p (ix2 ⟨d.val, by omega⟩ r)) (p (ix2 64 r)) := by
  pointwise [quotK]

/-- One head's output is the attention of its scores over its values, when the scores are real. -/
theorem head_at (M : IVec S256x256 1) (k : FVec Ideal S2048x256 .bf16) (kc : FVec Ideal S256x256 .bf16) (v : FVec Ideal S80x2048 .bf16) (vc : FVec Ideal S80x256 .bf16) (q : FVec Ideal S1x64x256 .bf16)
    (d : Fin 64) (r : Fin 256) (S V : Fin 2304 → EReal) (hS : ∀ t, IsReal (S t))
    (hl : ∀ s : Fin 2048, latK M k q (ix2 s r) = S ⟨256 + s.val, by omega⟩) (hc : ∀ s : Fin 256, ctxK M kc q (ix2 s r) = S ⟨s.val, by omega⟩)
    (hv : ∀ s : Fin 2048, v (ix2 ⟨d.val, by omega⟩ s) = V ⟨256 + s.val, by omega⟩) (hvc : ∀ s : Fin 256, vc (ix2 ⟨d.val, by omega⟩ s) = V ⟨s.val, by omega⟩)
    (h1 : ∀ s : Fin 2048, v (ix2 64 s) = 1) (h1c : ∀ s : Fin 256, vc (ix2 64 s) = 1) :
    headK M k kc v vc q (ix2 d r) = softmaxSum S V := by
  unfold headK
  rw [quot_at, prod_at, prod_at]
  simp only [max_at, hl, hc, hv, hvc, h1, h1c, one_mul]
  rw [← fold_max_join (a := 256) (b := 2048) rfl S]
  exact weighted_join (a := 256) (b := 2048) rfl (by norm_num) (fun t => Ideal.exp (S t - Finset.univ.fold max ⊥ S)) V
    fun t => exp_sub_pos (hS t) (isReal_fold_max (by norm_num) S hS)

/-- The stacked heads at an index. -/
theorem stack_at (a : Fin 4 → FVec Ideal S64x256 .f32) (z : Fin 1) (r : Fin 256) (h : Fin 4) (d : Fin 64) :
    stackK (a 0) (a 1) (a 2) (a 3) (ix3 z r ⟨h.val * 64 + d.val, by omega⟩) = a h (ix2 d r) := by
  pointwise [stackK]
  rcases h with ⟨h, hh⟩
  interval_cases h <;> simp
  all_goals
    repeat' first | rw [dif_neg (by omega)] | rw [dif_pos (by omega)]
    exact congrArg (fun w => a _ (ix2 w r)) (Fin.ext (by simp only; omega))

end Cert.KernelIdeal.RefValue

end
-- ==== Proof.AttnValue.lean ====
/- The attention call: the block a grid point writes is the reference's attention at the block's place, when the queries and
   the keys are real. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import Idealize.ShloMosaic.Lib.Claim
public import proofs.«01_k».proof.Proof.AttnParts

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttnMath

variable (m : (ℓ : Loc nD τ sig) → Buf (Elt Ideal) ℓ)

/-- The block every window shows at grid point `t`, and the group the point works on, decided over the grid. -/
theorem idx : ∀ t : Fin cfg0.N, win0_0.index t = ![t.val / 32, t.val / 8 % 4, t.val % 8] ∧ win0_1.index t = ![t.val / 32, 0, 0]
    ∧ win0_2.index t = ![t.val / 32, 0, 0] ∧ win0_3.index t = ![t.val / 32, t.val / 8 % 4, 0] ∧ win0_4.index t = ![t.val / 32, t.val / 8 % 4, 0]
    ∧ win0_5.index t = ![t.val / 32, t.val % 8, t.val / 8 % 4] ∧ (grid0.coords t 1).val = t.val / 8 % 4 :=
  (by decide +kernel : ∀ t : Fin grid0.N, _)

/-- The keys of the latent rows a point loads. -/
theorem k_at (c : Dev nD) (t : Fin cfg0.N) (ht : t.val < 256) (s : Fin 2048) (w : Fin 256) :
    (k0_pay3 (F := Ideal) (View.ld (iblk m c 1 t) r0_0)) (ix2 s w) = (m ((c : Thread nD τ).loc main_arg1)) (ix3 ⟨t.val / 32, by omega⟩ s w) := by
  pointwise [k0_pay3]
  blk_point [iblk, V, idx t]

/-- The keys of the context rows a point loads. -/
theorem kc_at (c : Dev nD) (t : Fin cfg0.N) (ht : t.val < 256) (s : Fin 256) (w : Fin 256) :
    (k0_pay4 (F := Ideal) (View.ld (iblk m c 2 t) r0_1)) (ix2 s w) = (m ((c : Thread nD τ).loc main_arg2)) (ix3 ⟨t.val / 32, by omega⟩ s w) := by
  pointwise [k0_pay4]
  blk_point [iblk, V, idx t]

/-- The latent rows' values a point loads. -/
theorem v_at (c : Dev nD) (t : Fin cfg0.N) (ht : t.val < 256) (d : Fin 64) (s : Fin 2048) :
    (k0_pay5 (F := Ideal) (View.ld (iblk m c 3 t) r0_2)) (ix2 ⟨d.val, by omega⟩ s) = (m ((c : Thread nD τ).loc main_arg3)) (ix3 ⟨t.val / 32, by omega⟩ ⟨t.val / 8 % 4 * 64 + d.val, by omega⟩ s) := by
  pointwise [k0_pay5]
  blk_point [iblk, V, idx t]

/-- The row of ones under the latent rows' values. -/
theorem v_one (c : Dev nD) (t : Fin cfg0.N) (s : Fin 2048) : (k0_pay5 (F := Ideal) (View.ld (iblk m c 3 t) r0_2)) (ix2 64 s) = 1 := by
  pointwise [k0_pay5]

/-- The context rows' values a point loads. -/
theorem vc_at (c : Dev nD) (t : Fin cfg0.N) (ht : t.val < 256) (d : Fin 64) (s : Fin 256) :
    (k0_pay7 (F := Ideal) (k0_pay6 (F := Ideal) (View.ld (iblk m c 4 t) r0_3))) (ix2 ⟨d.val, by omega⟩ s) = (m ((c : Thread nD τ).loc main_arg4)) (ix3 ⟨t.val / 32, by omega⟩ ⟨t.val / 8 % 4 * 64 + d.val, by omega⟩ s) := by
  pointwise [k0_pay6, k0_pay7]
  blk_point [iblk, V, idx t]

/-- The row of ones under the context rows' values. -/
theorem vc_one (c : Dev nD) (t : Fin cfg0.N) (s : Fin 256) : (k0_pay7 (F := Ideal) (k0_pay6 (F := Ideal) (View.ld (iblk m c 4 t) r0_3))) (ix2 64 s) = 1 := by
  pointwise [k0_pay6, k0_pay7]

/-- The four heads' query blocks a point loads. -/
def queries (c : Dev nD) (t : Fin cfg0.N) : Fin 4 → FVec Ideal S1x64x256 .bf16 :=
  ![View.ld (iblk m c 0 t) r0_4, View.ld (iblk m c 0 t) r0_5, View.ld (iblk m c 0 t) r0_6, View.ld (iblk m c 0 t) r0_7]

/-- A head's query block, by its place in the array. -/
theorem queries_at (c : Dev nD) (t : Fin cfg0.N) (ht : t.val < 256) (h : Fin 4) (d : Fin 64) (r : Fin 256) :
    queries m c t h (ix3 0 d r) = (m ((c : Thread nD τ).loc main_arg0)) (ix3 ⟨t.val / 32, by omega⟩ ⟨t.val / 8 % 4 * 256 + h.val * 64 + d.val, by omega⟩ ⟨t.val % 8 * 256 + r.val, by omega⟩) := by
  rcases h with ⟨h, hh⟩
  interval_cases h
  · show View.ld (iblk m c 0 t) r0_4 (ix3 0 d r) = _
    blk_point [iblk, V, idx t]
  · show View.ld (iblk m c 0 t) r0_5 (ix3 0 d r) = _
    blk_point [iblk, V, idx t]
  · show View.ld (iblk m c 0 t) r0_6 (ix3 0 d r) = _
    blk_point [iblk, V, idx t]
  · show View.ld (iblk m c 0 t) r0_7 (ix3 0 d r) = _
    blk_point [iblk, V, idx t]

/-- One head of a grid point is the reference's attention at the head's columns. -/
theorem head_point (c : Dev nD) (hq : ∀ j, IsReal ((m ((c : Thread nD τ).loc main_arg0)) j)) (hk : ∀ j, IsReal ((m ((c : Thread nD τ).loc main_arg1)) j)) (hkc : ∀ j, IsReal ((m ((c : Thread nD τ).loc main_arg2)) j))
    (t : Fin cfg0.N) (ht : t.val < 256) (h : Fin 4) (d : Fin 64) (r : Fin 256) :
    headK (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay7 (F := Ideal) (k0_pay6 (F := Ideal) (View.ld (iblk m c 4 t) r0_3))) (queries m c t h) (ix2 d r)
      = attended (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val / 32, by omega⟩ ⟨t.val % 8 * 256 + r.val, by omega⟩ ⟨t.val / 8 % 4 * 256 + h.val * 64 + d.val, by omega⟩) := by
  rw [attended_at]
  obtain ⟨g, hg⟩ : ∃ g : Fin 4, g.val = t.val / 8 % 4 := ⟨⟨t.val / 8 % 4, by omega⟩, rfl⟩
  have e1 : (⟨(t.val / 8 % 4 * 256 + h.val * 64 + d.val) / 256, by omega⟩ : Fin 4) = g := Fin.ext (by simp only; omega)
  have e2 : (⟨(t.val / 8 % 4 * 256 + h.val * 64 + d.val) / 64 % 4, by omega⟩ : Fin 4) = h := Fin.ext (by simp only; omega)
  have e3 : (⟨(t.val / 8 % 4 * 256 + h.val * 64 + d.val) / 256 * 64 + (t.val / 8 % 4 * 256 + h.val * 64 + d.val) % 64, by omega⟩ : Fin 256) = ⟨t.val / 8 % 4 * 64 + d.val, by omega⟩ :=
    Fin.ext (by simp only; omega)
  have hM : ∀ j : Fin 256, (k0_pay2 (grid0.coords t)) (ix2 j r) = if j.val / 64 = g.val then 1#1 else 0#1 :=
    fun j => mask_at _ g ((idx t).2.2.2.2.2.2.trans hg.symm) j r
  simp only [e1, e2, e3]
  refine head_at _ _ _ _ _ _ d r _ _ (fun s => scores_real _ _ _ hq hk hkc _ _ _ _ s) (fun s => ?_) (fun s => ?_) (fun s => ?_) (fun s => ?_)
    (fun s => v_one m c t s) (fun s => vc_one m c t s)
  · rw [lat_at, query_sum _ g r hM (fun x => (k0_pay3 (F := Ideal) (View.ld (iblk m c 1 t) r0_0)) (ix2 s x)), scores_lat]
    simp only [k_at m c t ht, queries_at m c t ht, hg]
  · rw [ctx_at, query_sum _ g r hM (fun x => (k0_pay4 (F := Ideal) (View.ld (iblk m c 2 t) r0_1)) (ix2 s x)), scores_ctx]
    simp only [kc_at m c t ht, queries_at m c t ht, hg]
  · rw [v_at m c t ht, column_lat]
  · rw [vc_at m c t ht, column_ctx]

/-- What the body stores at block index `y` of point `t` is the reference's result at the array index `y` sits at. -/
theorem point (c : Dev nD) (hq : ∀ j, IsReal ((m ((c : Thread nD τ).loc main_arg0)) j)) (hk : ∀ j, IsReal ((m ((c : Thread nD τ).loc main_arg1)) j)) (hkc : ∀ j, IsReal ((m ((c : Thread nD τ).loc main_arg2)) j))
    (t : Fin cfg0.N) (y : S1x256x256.Idx) :
    stackK (headK (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay7 (F := Ideal) (k0_pay6 (F := Ideal) (View.ld (iblk m c 4 t) r0_3))) (queries m c t 0)) (headK (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay7 (F := Ideal) (k0_pay6 (F := Ideal) (View.ld (iblk m c 4 t) r0_3))) (queries m c t 1)) (headK (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay7 (F := Ideal) (k0_pay6 (F := Ideal) (View.ld (iblk m c 4 t) r0_3))) (queries m c t 2)) (headK (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay7 (F := Ideal) (k0_pay6 (F := Ideal) (View.ld (iblk m c 4 t) r0_3))) (queries m c t 3)) y
      = attended (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 256 := lt_of_lt_of_eq t.isLt N_0
  idx_vars y
  obtain ⟨h, d, e⟩ : ∃ (h : Fin 4) (d : Fin 64), y2 = ⟨h.val * 64 + d.val, by omega⟩ :=
    ⟨⟨y2.val / 64, by omega⟩, ⟨y2.val % 64, by omega⟩, Fin.ext (by simp only; omega)⟩
  subst e
  refine (stack_at (fun h => headK (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay7 (F := Ideal) (k0_pay6 (F := Ideal) (View.ld (iblk m c 4 t) r0_3))) (queries m c t h)) y0 y1 h d).trans ?_
  refine (head_point m c hq hk hkc t ht h d y1).trans ?_
  blk_ext [idx t]

/-- The result array after the run is the reference's composed term. -/
theorem final (c : Dev nD) (hq : ∀ j, IsReal ((m ((c : Thread nD τ).loc main_arg0)) j)) (hk : ∀ j, IsReal ((m ((c : Thread nD τ).loc main_arg1)) j)) (hkc : ∀ j, IsReal ((m ((c : Thread nD τ).loc main_arg2)) j)) :
    (dats m 0 c).arrAt 5 (cfgs 0).N
      = attended (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  refine (congrFun (payload_eq (k0_pay2 (grid0.coords t)) (k0_pay3 (F := Ideal) (View.ld (iblk m c 1 t) r0_0)) (k0_pay4 (F := Ideal) (View.ld (iblk m c 2 t) r0_1)) (k0_pay5 (F := Ideal) (View.ld (iblk m c 3 t) r0_2)) (k0_pay6 (F := Ideal) (View.ld (iblk m c 4 t) r0_3)) (View.ld (iblk m c 0 t) r0_4) (View.ld (iblk m c 0 t) r0_5) (View.ld (iblk m c 0 t) r0_6) (View.ld (iblk m c 0 t) r0_7)) y).trans ?_
  exact point m c hq hk hkc t y

end Cert.KernelIdeal.RefValue

end
-- ==== Proof.AttnClaim.lean ====
/- The value claim of the attention call, assembled: what the precondition says of the queries and the keys, both runs, and
   the bridge from the result array to the reference's term. -/
module

public import proofs.«01_k».proof.Proof.AttnValue
public import proofs.«01_k».proof.Defs
public import Idealize.ShloMosaic.Lib.Claim
public import Idealize.ShloMosaic.Lib.ReduceAll

@[expose] public section

set_option maxRecDepth 16384

noncomputable section

open Idealize.ShloMosaic Idealize.ShloMosaic.TcCoe Idealize.SL.Sem

namespace Cert.Proof.Attn

open Cert.AttnMath

/-- The side conditions of the precondition's printed function. -/
instance pre_facts : Cert.Pre_qk_finite.Facts where
  bitsLt_bf16_f32 := by decide
  bcast_S_S8x1024x2048 := by decide
  reducesTo_S8x1024x2048_S_d0_1_2 := by decide
  h_S_ := by decide
  bcast_S_S8x2048x256 := by decide
  reducesTo_S8x2048x256_S_d0_1_2 := by decide
  bcast_S_S8x256x256 := by decide
  reducesTo_S8x256x256_S_d0_1_2 := by decide

/-- A value whose absolute value lies below the word of plus infinity is real. -/
theorem isReal_of_abs_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The precondition at all ones makes every query and every key real. -/
theorem real_of_pre [hP : Cert.Pre_qk_finite.Facts] (q : FVec Ideal Cert.Pre_qk_finite.S8x1024x2048 .bf16) (k : FVec Ideal Cert.Pre_qk_finite.S8x2048x256 .bf16)
    (kc : FVec Ideal Cert.Pre_qk_finite.S8x256x256 .bf16) (v : FVec Ideal Cert.Pre_qk_finite.S8x256x2048 .bf16) (vc : FVec Ideal Cert.Pre_qk_finite.S8x256x256 .bf16)
    (h : Cert.Pre_qk_finite.fn (F := Ideal) q k kc v vc = fun _ => 1#1) : (∀ j, IsReal (q j)) ∧ (∀ j, IsReal (k j)) ∧ (∀ j, IsReal (kc j)) := by
  haveI : Subsingleton Cert.Pre_qk_finite.S_.Idx := ⟨fun a b => funext fun i => i.elim0⟩
  have e := congrFun h (fun i => i.elim0)
  unfold Cert.Pre_qk_finite.fn at e
  obtain ⟨h12, h3⟩ := IntOp.andi_eq_one.1 e
  obtain ⟨h1, h2⟩ := IntOp.andi_eq_one.1 h12
  exact ⟨fun j => isReal_of_abs_lt _ (Host.reduce_andi_all _ _ _ _ _ h1 j), fun j => isReal_of_abs_lt _ (Host.reduce_andi_all _ _ _ _ _ h2 j),
    fun j => isReal_of_abs_lt _ (Host.reduce_andi_all _ _ _ _ _ h3 j)⟩

set_option maxHeartbeats 2000000 in
/-- From memories that agree on the arguments, with real queries and keys, both programs end, with equal results. -/
theorem algebraic [hP : Cert.Pre_qk_finite.Facts] : Cert.algebraic_KernelIdeal_ReferenceIdeal_pre_qk_finite := by
  pair_intro
  · run_from Cert.KernelIdeal.Gen.run_main m g
  · run_from Cert.ReferenceIdeal.Value.run m' g'
    refine (Cert.KernelIdeal.RefValue.reference_eq m' c).trans ?_
    simp only [hagree c]
    obtain ⟨hq, hk, hkc⟩ := real_of_pre _ _ _ _ _ (hpre c)
    exact (Cert.KernelIdeal.RefValue.final m c hq hk hkc).symm

end Cert.Proof.Attn

end
-- ==== Proof.FfnValue.lean ====
/- The feed-forward call: the block a grid point writes is the reference's result at the block's place.
   The reference's result is cut into three stages (gate and up projections; stream after the residual; final norm),
   and the kernel's payload is compared with them stage by stage. -/
module

public import proofs.«01_k».proof.Proof.Gen.KernelFfnIdeal.Frame
public import proofs.«01_k».proof.Proof.Gen.ReferenceFfnIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnIdeal.RefValue

open Cert.KernelFfnIdeal Cert.KernelFfnIdeal.Gen

/-- Stage 1 of the reference: the gate and up projections of the modulated norm of `x`. -/
def gateUp (x : FVec Ideal Cert.ReferenceFfnIdeal.S8x2048x1024 .f32) (sh sc : FVec Ideal Cert.ReferenceFfnIdeal.S8x1x1024 .f32) (g : FVec Ideal Cert.ReferenceFfnIdeal.S1x1024 .f32)
    (w : FVec Ideal Cert.ReferenceFfnIdeal.S1x1024x5632 .f32) : FVec Ideal Cert.ReferenceFfnIdeal.S8x2048x5632 .f32 :=
  Host.dotGeneral Cert.ReferenceFfnIdeal.dot_S8x2048x1024_S1024x5632_S8x2048x5632_2_0_01_1_n_n none
    (addf (mulf (mulf (mulf x (broadcastInDim Cert.ReferenceFfnIdeal.S8x2048x1024 ![0, 1, 2] Cert.ReferenceFfnIdeal.Gen.bcast_S8x2048x1_S8x2048x1024_0_1_2
      (Host.rsqrt (addf (Host.divf (broadcastInDim Cert.ReferenceFfnIdeal.S8x2048x1 ![0, 1] Cert.ReferenceFfnIdeal.Gen.bcast_S8x2048_S8x2048x1_0_1
        (Host.reduceAdd (mulf x x) (constant Cert.ReferenceFfnIdeal.S_ .f32 0x00000000#32) Cert.ReferenceFfnIdeal.Gen.reducesTo_S8x2048x1024_S8x2048_d2 Cert.ReferenceFfnIdeal.Gen.h_S_))
        (broadcastInDim Cert.ReferenceFfnIdeal.S8x2048x1 ![] Cert.ReferenceFfnIdeal.Gen.bcast_S_S8x2048x1 (constant Cert.ReferenceFfnIdeal.S_ .f32 0x44800000#32)))
        (broadcastInDim Cert.ReferenceFfnIdeal.S8x2048x1 ![] Cert.ReferenceFfnIdeal.Gen.bcast_S_S8x2048x1 (constant Cert.ReferenceFfnIdeal.S_ .f32 0x358637BD#32))))))
      (broadcastInDim Cert.ReferenceFfnIdeal.S8x2048x1024 ![0, 1, 2] Cert.ReferenceFfnIdeal.Gen.bcast_S1x1x1024_S8x2048x1024_0_1_2
        (broadcastInDim Cert.ReferenceFfnIdeal.S1x1x1024 ![2] Cert.ReferenceFfnIdeal.Gen.bcast_S1024_S1x1x1024_2 (shapeCast _ g Cert.ReferenceFfnIdeal.Gen.shapeCasts_S1x1024_S1024))))
      (broadcastInDim Cert.ReferenceFfnIdeal.S8x2048x1024 ![0, 1, 2] Cert.ReferenceFfnIdeal.Gen.bcast_S8x1x1024_S8x2048x1024_0_1_2
        (addf (broadcastInDim Cert.ReferenceFfnIdeal.S8x1x1024 ![] Cert.ReferenceFfnIdeal.Gen.bcast_S_S8x1x1024 (constant Cert.ReferenceFfnIdeal.S_ .f32 0x3F800000#32)) sc)))
      (broadcastInDim Cert.ReferenceFfnIdeal.S8x2048x1024 ![0, 1, 2] Cert.ReferenceFfnIdeal.Gen.bcast_S8x1x1024_S8x2048x1024_0_1_2 sh))
    (shapeCast Cert.ReferenceFfnIdeal.S1024x5632 w Cert.ReferenceFfnIdeal.Gen.shapeCasts_S1x1024x5632_S1024x5632)

/-- Stage 2 of the reference: the gated product, its down projection, and the residual. -/
def stream (x : FVec Ideal Cert.ReferenceFfnIdeal.S8x2048x1024 .f32) (gt : FVec Ideal Cert.ReferenceFfnIdeal.S8x1x1024 .f32) (gu : FVec Ideal Cert.ReferenceFfnIdeal.S8x2048x5632 .f32)
    (wd : FVec Ideal Cert.ReferenceFfnIdeal.S1x2816x1024 .f32) : FVec Ideal Cert.ReferenceFfnIdeal.S8x2048x1024 .f32 :=
  addf x (mulf (broadcastInDim Cert.ReferenceFfnIdeal.S8x2048x1024 ![0, 1, 2] Cert.ReferenceFfnIdeal.Gen.bcast_S8x1x1024_S8x2048x1024_0_1_2 gt)
    (Host.dotGeneral Cert.ReferenceFfnIdeal.dot_S8x2048x2816_S2816x1024_S8x2048x1024_2_0_01_1_n_n none
      (mulf (mulf (extractStridedSlice Cert.ReferenceFfnIdeal.S8x2048x2816 ![0, 0, 0] gu Cert.ReferenceFfnIdeal.Gen.slices_S8x2048x5632_S8x2048x2816_0_0_0)
        (Host.divf (broadcastInDim Cert.ReferenceFfnIdeal.S8x2048x2816 ![] Cert.ReferenceFfnIdeal.Gen.bcast_S_S8x2048x2816 (constant Cert.ReferenceFfnIdeal.S_ .f32 0x3F800000#32))
          (addf (broadcastInDim Cert.ReferenceFfnIdeal.S8x2048x2816 ![] Cert.ReferenceFfnIdeal.Gen.bcast_S_S8x2048x2816 (constant Cert.ReferenceFfnIdeal.S_ .f32 0x3F800000#32))
            (Host.exp (Host.negf (extractStridedSlice Cert.ReferenceFfnIdeal.S8x2048x2816 ![0, 0, 0] gu Cert.ReferenceFfnIdeal.Gen.slices_S8x2048x5632_S8x2048x2816_0_0_0))))))
        (extractStridedSlice Cert.ReferenceFfnIdeal.S8x2048x2816 ![0, 0, 2816] gu Cert.ReferenceFfnIdeal.Gen.slices_S8x2048x5632_S8x2048x2816_0_0_2816))
      (shapeCast Cert.ReferenceFfnIdeal.S2816x1024 wd Cert.ReferenceFfnIdeal.Gen.shapeCasts_S1x2816x1024_S2816x1024)))

/-- Stage 3 of the reference: the final norm. -/
def finalNorm (s : FVec Ideal Cert.ReferenceFfnIdeal.S8x2048x1024 .f32) (g : FVec Ideal Cert.ReferenceFfnIdeal.S1024 .f32) : FVec Ideal Cert.ReferenceFfnIdeal.S8x2048x1024 .f32 :=
  mulf (mulf s (broadcastInDim Cert.ReferenceFfnIdeal.S8x2048x1024 ![0, 1, 2] Cert.ReferenceFfnIdeal.Gen.bcast_S8x2048x1_S8x2048x1024_0_1_2
      (Host.rsqrt (addf (Host.divf (broadcastInDim Cert.ReferenceFfnIdeal.S8x2048x1 ![0, 1] Cert.ReferenceFfnIdeal.Gen.bcast_S8x2048_S8x2048x1_0_1
        (Host.reduceAdd (mulf s s) (constant Cert.ReferenceFfnIdeal.S_ .f32 0x00000000#32) Cert.ReferenceFfnIdeal.Gen.reducesTo_S8x2048x1024_S8x2048_d2 Cert.ReferenceFfnIdeal.Gen.h_S_))
        (broadcastInDim Cert.ReferenceFfnIdeal.S8x2048x1 ![] Cert.ReferenceFfnIdeal.Gen.bcast_S_S8x2048x1 (constant Cert.ReferenceFfnIdeal.S_ .f32 0x44800000#32)))
        (broadcastInDim Cert.ReferenceFfnIdeal.S8x2048x1 ![] Cert.ReferenceFfnIdeal.Gen.bcast_S_S8x2048x1 (constant Cert.ReferenceFfnIdeal.S_ .f32 0x358637BD#32))))))
    (broadcastInDim Cert.ReferenceFfnIdeal.S8x2048x1024 ![0, 1, 2] Cert.ReferenceFfnIdeal.Gen.bcast_S1x1x1024_S8x2048x1024_0_1_2
      (broadcastInDim Cert.ReferenceFfnIdeal.S1x1x1024 ![2] Cert.ReferenceFfnIdeal.Gen.bcast_S1024_S1x1x1024_2 g))

/-- The reference's composed term is its three stages, one after the other. -/
theorem reference_eq (m : (ℓ : Loc Cert.ReferenceFfnIdeal.nD Cert.ReferenceFfnIdeal.τ Cert.ReferenceFfnIdeal.sig) → Buf (Elt Ideal) ℓ) (c : Dev Cert.ReferenceFfnIdeal.nD) :
    Cert.ReferenceFfnIdeal.Value.res_out0 m c
      = finalNorm (stream (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg3))
          (gateUp (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1))
            (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg4))
            (m ((c.tc : Thread Cert.ReferenceFfnIdeal.nD Cert.ReferenceFfnIdeal.τ).loc Cert.ReferenceFfnIdeal.main_arg5)))
          (m ((c.tc : Thread Cert.ReferenceFfnIdeal.nD Cert.ReferenceFfnIdeal.τ).loc Cert.ReferenceFfnIdeal.main_arg6))) (m ((c.tc : Thread Cert.ReferenceFfnIdeal.nD Cert.ReferenceFfnIdeal.τ).loc Cert.ReferenceFfnIdeal.main_arg7)) := by
  unfold Cert.ReferenceFfnIdeal.Value.res_out0 Cert.ReferenceFfnIdeal.Value.res_main_v43 finalNorm stream gateUp
  rfl

variable (m : (ℓ : Loc nD τ sig) → Buf (Elt Ideal) ℓ)

/-- The block every window shows at grid point `t`, decided over the grid. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0] ∧ win0_4.index t = ![0, 0]
    ∧ win0_5.index t = ![0, 0] ∧ win0_6.index t = ![0, 0] ∧ win0_7.index t = ![0, 0]
    ∧ win0_8.index t = ![t.val / 8, t.val % 8, 0] :=
  (by decide +kernel : ∀ t : Fin grid0.N, _)

set_option maxHeartbeats 2000000 in
/-- Stage 1 at a grid point: the kernel's projection block is the reference's projection at the block's place. -/
theorem gateUp_at (c : Dev nD) (t : Fin cfg0.N) (i : S256x5632.Idx) (j : Cert.ReferenceFfnIdeal.S8x2048x5632.Idx)
    (hj0 : (j 0 : ℕ) = t.val / 8) (hj1 : (j 1 : ℕ) = t.val % 8 * 256 + i 0) (hj2 : (j 2 : ℕ) = i 1) :
    k0_pay3 (F := Ideal) (iblk m c 0 t) (iblk m c 4 t) (iblk m c 1 t) (iblk m c 2 t) (iblk m c 5 t) i
      = gateUp (m ((c : Thread nD τ).loc main_arg0)) (m ((c : Thread nD τ).loc main_arg1)) (m ((c : Thread nD τ).loc main_arg2))
          (m ((c : Thread nD τ).loc main_arg4)) (m ((c : Thread nD τ).loc main_arg5)) j := by
  pointwise [k0_pay3, k0_pay2, gateUp]
  blk_point [iblk, V, idx t]

/-- The stream after the residual, as the kernel computes it from its projection block. -/
def streamK (v0 : FVec Ideal S1x256x1024 .f32) (gu : FVec Ideal S256x5632 .f32) (v42 : FVec Ideal S1x1x1024 .f32)
    (v44 : FVec Ideal S2816x1024 .bf16) : FVec Ideal S256x1024 .f32 :=
  have up : FVec Ideal S256x2816 .f32 := extractStridedSlice S256x2816 ![0, 2816] gu slices_S256x5632_o0_2816_S256x2816
  have gate : FVec Ideal S256x2816 .f32 := extractStridedSlice S256x2816 ![0, 0] gu slices_S256x5632_o0_0_S256x2816
  have one : FVec Ideal S256x2816 .f32 := broadcast S256x2816 (Scalar.ofBits .f32 0x3F800000#32)
  have zero : FVec Ideal S256x2816 .f32 := broadcast S256x2816 (Scalar.ofBits .f32 0x00000000#32)
  have act : FVec Ideal S256x2816 .bf16 := truncf .bf16 (mulf (mulf gate (divf one (addf one (exp (subf zero gate))))) up) bitsLt_bf16_f32
  addf (k0_pay2 v0) (mulf (broadcastTo S256x1024 (shapeCast S1x1024 v42 shapeCasts_S1x1x1024_S1x1024) broadcasts_S1x1024_S256x1024)
    (matmul dot_S256x2816_S2816x1024_S256x1024_1_0_0_1_n_n none act (shapeCast S2816x1024 v44 shapeCasts_S2816x1024_S2816x1024)
      (constant S256x1024 .f32 0x00000000#32)))

/-- The final norm of a stream block, as the kernel computes it. -/
def normK (s : FVec Ideal S256x1024 .f32) (v60 : FVec Ideal S1x1024 .f32) : FVec Ideal S1x256x1024 .f32 :=
  have ss : FVec Ideal S256 .f32 := multiReduction .add [1] S256 (mulf s s) 0x00000000#32 reduces_S256x1024_S256 (.inl rfl) rfl
  have ms : FVec Ideal S256x1 .f32 := divf (shapeCast S256x1 ss shapeCasts_S256_S256x1) (broadcast S256x1 (Scalar.ofBits .f32 0x44800000#32))
  have r : FVec Ideal S256x1 .f32 := rsqrt (addf ms (broadcast S256x1 (Scalar.ofBits .f32 0x358637BD#32)))
  shapeCast S1x256x1024 (mulf (mulf s (broadcastTo S256x1024 r broadcasts_S256x1_S256x1024))
    (broadcastTo S256x1024 (shapeCast S1x1024 v60 shapeCasts_S1x1024_S1x1024) broadcasts_S1x1024_S256x1024)) shapeCasts_S256x1024_S1x256x1024

/-- The stored payload is the final norm of the stream block. -/
theorem payload_eq (v0 : FVec Ideal S1x256x1024 .f32) (v2 : FVec Ideal S1x1024 .f32) (v4 v6 v42 : FVec Ideal S1x1x1024 .f32)
    (v27 : FVec Ideal S1024x5632 .bf16) (v44 : FVec Ideal S2816x1024 .bf16) (v60 : FVec Ideal S1x1024 .f32) :
    k0_pay1 (F := Ideal) (k0_pay2 v0) (k0_pay4 v0 v2 v4 v6 v27) (k0_pay5 v0 v2 v4 v6 v27) (k0_pay6 v0 v2 v4 v6 v27)
        (Scalar.ofBits .f32 0x3F800000#32) v42 v44 v60
      = normK (streamK v0 (k0_pay3 (F := Ideal) v0 v2 v4 v6 v27) v42 v44) v60 := rfl

set_option maxHeartbeats 2000000 in
/-- Stage 2 at a grid point: the kernel's stream block is the reference's stream at the block's place. -/
theorem stream_at (c : Dev nD) (t : Fin cfg0.N) (gu : FVec Ideal S256x5632 .f32) (G : FVec Ideal Cert.ReferenceFfnIdeal.S8x2048x5632 .f32)
    (ht : t.val < 64)
    (hG : ∀ (r : Fin 256) (k : Fin 5632), gu (ix2 r k) = G (ix3 ⟨t.val / 8, by omega⟩ ⟨t.val % 8 * 256 + r.val, by omega⟩ k))
    (r : Fin 256) (n : Fin 1024) :
    streamK (iblk m c 0 t) gu (iblk m c 3 t) (iblk m c 6 t) (ix2 r n)
      = stream (m ((c : Thread nD τ).loc main_arg0)) (m ((c : Thread nD τ).loc main_arg3)) G (m ((c : Thread nD τ).loc main_arg6))
          (ix3 ⟨t.val / 8, by omega⟩ ⟨t.val % 8 * 256 + r.val, by omega⟩ n) := by
  pointwise [streamK, k0_pay2, stream]
  simp only [hG, zero_sub]
  blk_point [iblk, V, idx t]

set_option maxHeartbeats 2000000 in
/-- Stage 3 at a grid point: the norm of the stream block is the norm of the reference's stream at the block's place. -/
theorem norm_at (c : Dev nD) (t : Fin cfg0.N) (s : FVec Ideal S256x1024 .f32) (S : FVec Ideal Cert.ReferenceFfnIdeal.S8x2048x1024 .f32)
    (ht : t.val < 64)
    (hS : ∀ (r : Fin 256) (n : Fin 1024), s (ix2 r n) = S (ix3 ⟨t.val / 8, by omega⟩ ⟨t.val % 8 * 256 + r.val, by omega⟩ n))
    (z : Fin 1) (r : Fin 256) (n : Fin 1024) :
    normK s (iblk m c 7 t) (ix3 z r n)
      = finalNorm S (m ((c : Thread nD τ).loc main_arg7)) (ix3 ⟨t.val / 8, by omega⟩ ⟨t.val % 8 * 256 + r.val, by omega⟩ n) := by
  pointwise [normK, finalNorm]
  simp only [hS]
  blk_point [iblk, V, idx t]

/-- What the body stores at block index `y` of point `t` is the reference's result at the array index `y` sits at. -/
theorem point (c : Dev nD) (t : Fin cfg0.N) (y : S1x256x1024.Idx) :
    k0_pay1 (F := Ideal) (k0_pay2 (iblk m c 0 t))
        (k0_pay4 (iblk m c 0 t) (iblk m c 4 t) (iblk m c 1 t) (iblk m c 2 t) (iblk m c 5 t))
        (k0_pay5 (iblk m c 0 t) (iblk m c 4 t) (iblk m c 1 t) (iblk m c 2 t) (iblk m c 5 t))
        (k0_pay6 (iblk m c 0 t) (iblk m c 4 t) (iblk m c 1 t) (iblk m c 2 t) (iblk m c 5 t))
        (Scalar.ofBits .f32 0x3F800000#32) (iblk m c 3 t) (iblk m c 6 t) (iblk m c 7 t) y
      = finalNorm (stream (m ((c : Thread nD τ).loc main_arg0)) (m ((c : Thread nD τ).loc main_arg3))
          (gateUp (m ((c : Thread nD τ).loc main_arg0)) (m ((c : Thread nD τ).loc main_arg1)) (m ((c : Thread nD τ).loc main_arg2))
            (m ((c : Thread nD τ).loc main_arg4)) (m ((c : Thread nD τ).loc main_arg5)))
          (m ((c : Thread nD τ).loc main_arg6))) (m ((c : Thread nD τ).loc main_arg7)) (((cfg0.win 8).blk t).view.emb y) := by
  have ht : t.val < 64 := lt_of_lt_of_eq t.isLt N_0
  rw [payload_eq]
  idx_vars y
  refine (norm_at m c t _ _ ht (stream_at m c t _ _ ht fun r k => gateUp_at m c t _ _ rfl rfl rfl) y0 y1 y2).trans ?_
  blk_ext [idx t]

/-- The result array after the run is the reference's composed term. -/
theorem final (c : Dev nD) : (dats m 0 c).arrAt 8 (cfgs 0).N
      = finalNorm (stream (m ((c : Thread nD τ).loc main_arg0)) (m ((c : Thread nD τ).loc main_arg3))
          (gateUp (m ((c : Thread nD τ).loc main_arg0)) (m ((c : Thread nD τ).loc main_arg1)) (m ((c : Thread nD τ).loc main_arg2))
            (m ((c : Thread nD τ).loc main_arg4)) (m ((c : Thread nD τ).loc main_arg5)))
          (m ((c : Thread nD τ).loc main_arg6))) (m ((c : Thread nD τ).loc main_arg7)) := by
  refine (dats m 0 c).arrAt_eq_of_covers 8 _ (by decide +kernel) fun t _ y => ?_
  blk_simp
  rw [after0_8]
  frame_out
  exact point m c t y

end Cert.KernelFfnIdeal.RefValue

end
-- ==== Proof.FfnClaim.lean ====
/- The value claim of the Ffn call, assembled: both runs, and the bridge from the result array to the reference's term. -/
module

public import proofs.«01_k».proof.Proof.FfnValue
public import proofs.«01_k».proof.Defs
public import Idealize.ShloMosaic.Lib.Claim

@[expose] public section

set_option maxRecDepth 16384

noncomputable section

open Idealize.ShloMosaic Idealize.ShloMosaic.TcCoe Idealize.SL.Sem

namespace Cert.Proof.Ffn

set_option maxHeartbeats 2000000 in
/-- From memories that agree on the arguments both programs end, with equal results. -/
theorem algebraic : Cert.algebraic_KernelFfnIdeal_ReferenceFfnIdeal := by
  pair_intro
  · run_from Cert.KernelFfnIdeal.Gen.run_main m g
  · run_from Cert.ReferenceFfnIdeal.Value.run m' g'
    refine (Cert.KernelFfnIdeal.RefValue.reference_eq m' c).trans ?_
    simp only [hagree c]
    exact (Cert.KernelFfnIdeal.RefValue.final m c).symm

end Cert.Proof.Ffn

end
-- ==== Proof.MergeValue.lean ====
/- The merge call: the block a grid point writes is the reference's stream at the block's place. The reference's
   result is cut into two stages (the gates' exponentials; the gated sum of the two projections with the residual), and the
   kernel's payload is compared with them one after the other. -/
module

public import proofs.«01_k».proof.Proof.Gen.KernelMergeIdeal.Frame
public import proofs.«01_k».proof.Proof.Gen.ReferenceMergeIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelMergeIdeal.RefValue

open Cert.KernelMergeIdeal Cert.KernelMergeIdeal.Gen

/-- Stage 1 of the reference: `exp (-logit)` of the gates, the logits a projection of the modulated norm of `x` plus a bias. -/
def gateExp (x : FVec Ideal Cert.ReferenceMergeIdeal.S8x2048x1024 .f32) (sh sc : FVec Ideal Cert.ReferenceMergeIdeal.S8x1x1024 .f32) (g : FVec Ideal Cert.ReferenceMergeIdeal.S1x1024 .f32)
    (w : FVec Ideal Cert.ReferenceMergeIdeal.S1x1024x4096 .f32) (b : FVec Ideal Cert.ReferenceMergeIdeal.S1x2048 .f32) : FVec Ideal Cert.ReferenceMergeIdeal.S8x2048x2048 .f32 :=
  Host.exp (Host.negf (addf (Host.dotGeneral Cert.ReferenceMergeIdeal.dot_S8x2048x1024_S1024x2048_S8x2048x2048_2_0_01_1_n_n none
    (addf (mulf (mulf (mulf x (broadcastInDim Cert.ReferenceMergeIdeal.S8x2048x1024 ![0, 1, 2] Cert.ReferenceMergeIdeal.Gen.bcast_S8x2048x1_S8x2048x1024_0_1_2
      (Host.rsqrt (addf (Host.divf (broadcastInDim Cert.ReferenceMergeIdeal.S8x2048x1 ![0, 1] Cert.ReferenceMergeIdeal.Gen.bcast_S8x2048_S8x2048x1_0_1
        (Host.reduceAdd (mulf x x) (constant Cert.ReferenceMergeIdeal.S_ .f32 0x00000000#32) Cert.ReferenceMergeIdeal.Gen.reducesTo_S8x2048x1024_S8x2048_d2 Cert.ReferenceMergeIdeal.Gen.h_S_))
        (broadcastInDim Cert.ReferenceMergeIdeal.S8x2048x1 ![] Cert.ReferenceMergeIdeal.Gen.bcast_S_S8x2048x1 (constant Cert.ReferenceMergeIdeal.S_ .f32 0x44800000#32)))
        (broadcastInDim Cert.ReferenceMergeIdeal.S8x2048x1 ![] Cert.ReferenceMergeIdeal.Gen.bcast_S_S8x2048x1 (constant Cert.ReferenceMergeIdeal.S_ .f32 0x358637BD#32))))))
      (broadcastInDim Cert.ReferenceMergeIdeal.S8x2048x1024 ![0, 1, 2] Cert.ReferenceMergeIdeal.Gen.bcast_S1x1x1024_S8x2048x1024_0_1_2
        (broadcastInDim Cert.ReferenceMergeIdeal.S1x1x1024 ![2] Cert.ReferenceMergeIdeal.Gen.bcast_S1024_S1x1x1024_2 (shapeCast _ g Cert.ReferenceMergeIdeal.Gen.shapeCasts_S1x1024_S1024))))
      (broadcastInDim Cert.ReferenceMergeIdeal.S8x2048x1024 ![0, 1, 2] Cert.ReferenceMergeIdeal.Gen.bcast_S8x1x1024_S8x2048x1024_0_1_2
        (addf (broadcastInDim Cert.ReferenceMergeIdeal.S8x1x1024 ![] Cert.ReferenceMergeIdeal.Gen.bcast_S_S8x1x1024 (constant Cert.ReferenceMergeIdeal.S_ .f32 0x3F800000#32)) sc)))
      (broadcastInDim Cert.ReferenceMergeIdeal.S8x2048x1024 ![0, 1, 2] Cert.ReferenceMergeIdeal.Gen.bcast_S8x1x1024_S8x2048x1024_0_1_2 sh))
    (extractStridedSlice Cert.ReferenceMergeIdeal.S1024x2048 ![0, 2048] (shapeCast _ w Cert.ReferenceMergeIdeal.Gen.shapeCasts_S1x1024x4096_S1024x4096) Cert.ReferenceMergeIdeal.Gen.slices_S1024x4096_S1024x2048_0_2048))
    (broadcastInDim Cert.ReferenceMergeIdeal.S8x2048x2048 ![0, 1, 2] Cert.ReferenceMergeIdeal.Gen.bcast_S1x1x2048_S8x2048x2048_0_1_2
      (broadcastInDim Cert.ReferenceMergeIdeal.S1x1x2048 ![2] Cert.ReferenceMergeIdeal.Gen.bcast_S2048_S1x1x2048_2 (shapeCast _ b Cert.ReferenceMergeIdeal.Gen.shapeCasts_S1x2048_S2048)))))

/-- Stage 2 of the reference: the gated attention and Fourier projections, the output projection, and the residual. -/
def merged (x : FVec Ideal Cert.ReferenceMergeIdeal.S8x2048x1024 .f32) (gt : FVec Ideal Cert.ReferenceMergeIdeal.S8x1x1024 .f32) (e : FVec Ideal Cert.ReferenceMergeIdeal.S8x2048x2048 .f32)
    (at_ : FVec Ideal Cert.ReferenceMergeIdeal.S8x2048x1024 .bf16) (fo : FVec Ideal Cert.ReferenceMergeIdeal.S8x2048x512 .bf16) (wa : FVec Ideal Cert.ReferenceMergeIdeal.S1x1024x1024 .f32)
    (wf : FVec Ideal Cert.ReferenceMergeIdeal.S1x512x1024 .f32) (wo : FVec Ideal Cert.ReferenceMergeIdeal.S1x1024x1024 .f32) : FVec Ideal Cert.ReferenceMergeIdeal.S8x2048x1024 .f32 :=
  addf x (mulf (broadcastInDim Cert.ReferenceMergeIdeal.S8x2048x1024 ![0, 1, 2] Cert.ReferenceMergeIdeal.Gen.bcast_S8x1x1024_S8x2048x1024_0_1_2 gt)
    (Host.dotGeneral Cert.ReferenceMergeIdeal.dot_S8x2048x1024_S1024x1024_S8x2048x1024_2_0_01_1_n_n none
      (addf
        (mulf (extractStridedSlice Cert.ReferenceMergeIdeal.S8x2048x1024 ![0, 0, 0]
            (Host.divf (broadcastInDim Cert.ReferenceMergeIdeal.S8x2048x2048 ![] Cert.ReferenceMergeIdeal.Gen.bcast_S_S8x2048x2048 (constant Cert.ReferenceMergeIdeal.S_ .f32 0x3F800000#32))
              (addf (broadcastInDim Cert.ReferenceMergeIdeal.S8x2048x2048 ![] Cert.ReferenceMergeIdeal.Gen.bcast_S_S8x2048x2048 (constant Cert.ReferenceMergeIdeal.S_ .f32 0x3F800000#32)) e))
            Cert.ReferenceMergeIdeal.Gen.slices_S8x2048x2048_S8x2048x1024_0_0_0)
          (Host.dotGeneral Cert.ReferenceMergeIdeal.dot_S8x2048x1024_S1024x1024_S8x2048x1024_2_0_01_1_n_n none (extf .f32 at_ Cert.ReferenceMergeIdeal.Gen.bitsLt_bf16_f32)
            (shapeCast _ wa Cert.ReferenceMergeIdeal.Gen.shapeCasts_S1x1024x1024_S1024x1024)))
        (mulf (extractStridedSlice Cert.ReferenceMergeIdeal.S8x2048x1024 ![0, 0, 1024]
            (Host.divf (broadcastInDim Cert.ReferenceMergeIdeal.S8x2048x2048 ![] Cert.ReferenceMergeIdeal.Gen.bcast_S_S8x2048x2048 (constant Cert.ReferenceMergeIdeal.S_ .f32 0x3F800000#32))
              (addf (broadcastInDim Cert.ReferenceMergeIdeal.S8x2048x2048 ![] Cert.ReferenceMergeIdeal.Gen.bcast_S_S8x2048x2048 (constant Cert.ReferenceMergeIdeal.S_ .f32 0x3F800000#32)) e))
            Cert.ReferenceMergeIdeal.Gen.slices_S8x2048x2048_S8x2048x1024_0_0_1024)
          (Host.dotGeneral Cert.ReferenceMergeIdeal.dot_S8x2048x512_S512x1024_S8x2048x1024_2_0_01_1_n_n none (extf .f32 fo Cert.ReferenceMergeIdeal.Gen.bitsLt_bf16_f32)
            (shapeCast _ wf Cert.ReferenceMergeIdeal.Gen.shapeCasts_S1x512x1024_S512x1024))))
      (shapeCast _ wo Cert.ReferenceMergeIdeal.Gen.shapeCasts_S1x1024x1024_S1024x1024)))

/-- The reference's composed term is its two stages, one after the other. -/
theorem reference_eq (m : (ℓ : Loc Cert.ReferenceMergeIdeal.nD Cert.ReferenceMergeIdeal.τ Cert.ReferenceMergeIdeal.sig) → Buf (Elt Ideal) ℓ) (c : Dev Cert.ReferenceMergeIdeal.nD) :
    Cert.ReferenceMergeIdeal.Value.res_out0 m c
      = merged (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg3)) (gateExp (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6))) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11)) := by
  unfold Cert.ReferenceMergeIdeal.Value.res_out0 Cert.ReferenceMergeIdeal.Value.res_main_v48 merged gateExp
  rfl

variable (m : (ℓ : Loc nD τ sig) → Buf (Elt Ideal) ℓ)

/-- The block every window shows at grid point `t`, decided over the grid. -/
theorem idx : ∀ t : Fin cfg0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![0, 0]
    ∧ win0_5.index t = ![0, 0] ∧ win0_6.index t = ![0, 0] ∧ win0_7.index t = ![t.val / 4, t.val % 4, 0]
    ∧ win0_8.index t = ![t.val / 4, t.val % 4, 0] ∧ win0_9.index t = ![0, 0] ∧ win0_10.index t = ![0, 0]
    ∧ win0_11.index t = ![0, 0] ∧ win0_12.index t = ![t.val / 4, t.val % 4, 0] :=
  (by decide +kernel : ∀ t : Fin grid0.N, _)

set_option maxHeartbeats 2000000 in
/-- Stage 1 at a grid point: the kernel's block of gate exponentials is the reference's at the block's place. -/
theorem gateExp_at (c : Dev nD) (t : Fin cfg0.N) (i : S512x2048.Idx) (j : Cert.ReferenceMergeIdeal.S8x2048x2048.Idx)
    (hj0 : (j 0 : ℕ) = t.val / 4) (hj1 : (j 1 : ℕ) = t.val % 4 * 512 + i 0) (hj2 : (j 2 : ℕ) = i 1) :
    k0_pay3 (F := Ideal) (iblk m c 0 t) (iblk m c 4 t) (iblk m c 1 t) (iblk m c 2 t) (iblk m c 5 t) (iblk m c 6 t) i
      = gateExp (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) j := by
  pointwise [k0_pay3, k0_pay2, gateExp]
  rw [zero_sub]
  blk_point [iblk, V, idx t]

set_option maxHeartbeats 2000000 in
/-- Stage 2 at a grid point: the stored block is the reference's merged stream at the block's place. -/
theorem merged_at (c : Dev nD) (t : Fin cfg0.N) (e : FVec Ideal S512x2048 .f32) (E : FVec Ideal Cert.ReferenceMergeIdeal.S8x2048x2048 .f32)
    (ht : t.val < 32)
    (hE : ∀ (r : Fin 512) (k : Fin 2048), e (ix2 r k) = E (ix3 ⟨t.val / 4, by omega⟩ ⟨t.val % 4 * 512 + r.val, by omega⟩ k))
    (z : Fin 1) (r : Fin 512) (n : Fin 1024) :
    k0_pay1 (F := Ideal) (k0_pay2 (iblk m c 0 t)) e (iblk m c 7 t) (iblk m c 9 t) (iblk m c 8 t) (iblk m c 10 t) (iblk m c 11 t) (iblk m c 3 t) (ix3 z r n)
      = merged (m ((c : Thread nD τ).loc main_arg0)) (m ((c : Thread nD τ).loc main_arg3)) E (m ((c : Thread nD τ).loc main_arg7)) (m ((c : Thread nD τ).loc main_arg8)) (m ((c : Thread nD τ).loc main_arg9)) (m ((c : Thread nD τ).loc main_arg10)) (m ((c : Thread nD τ).loc main_arg11)) (ix3 ⟨t.val / 4, by omega⟩ ⟨t.val % 4 * 512 + r.val, by omega⟩ n) := by
  pointwise [k0_pay1, k0_pay2, merged]
  simp only [hE]
  blk_point [iblk, V, idx t]

/-- What the body stores at block index `y` of point `t` is the reference's result at the array index `y` sits at. -/
theorem point (c : Dev nD) (t : Fin cfg0.N) (y : S1x512x1024.Idx) :
    k0_pay1 (F := Ideal) (k0_pay2 (iblk m c 0 t)) (k0_pay3 (F := Ideal) (iblk m c 0 t) (iblk m c 4 t) (iblk m c 1 t) (iblk m c 2 t) (iblk m c 5 t) (iblk m c 6 t)) (iblk m c 7 t) (iblk m c 9 t) (iblk m c 8 t) (iblk m c 10 t) (iblk m c 11 t) (iblk m c 3 t) y
      = merged (m ((c : Thread nD τ).loc main_arg0)) (m ((c : Thread nD τ).loc main_arg3)) (gateExp (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y) := by
  have ht : t.val < 32 := lt_of_lt_of_eq t.isLt N_0
  idx_vars y
  refine (merged_at m c t _ _ ht (fun r k => gateExp_at m c t _ _ rfl rfl rfl) y0 y1 y2).trans ?_
  blk_ext [idx t]

/-- The result array after the run is the reference's composed term. -/
theorem final (c : Dev nD) : (dats m 0 c).arrAt 12 (cfgs 0).N
      = merged (m ((c : Thread nD τ).loc main_arg0)) (m ((c : Thread nD τ).loc main_arg3)) (gateExp (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  frame_out
  exact point m c t y

end Cert.KernelMergeIdeal.RefValue

end
-- ==== Proof.MergeClaim.lean ====
/- The value claim of the Merge call, assembled: both runs, and the bridge from the result array to the reference's term. -/
module

public import proofs.«01_k».proof.Proof.MergeValue
public import proofs.«01_k».proof.Defs
public import Idealize.ShloMosaic.Lib.Claim

@[expose] public section

set_option maxRecDepth 16384

noncomputable section

open Idealize.ShloMosaic Idealize.ShloMosaic.TcCoe Idealize.SL.Sem

namespace Cert.Proof.Merge

set_option maxHeartbeats 2000000 in
/-- From memories that agree on the arguments both programs end, with equal results. -/
theorem algebraic : Cert.algebraic_KernelMergeIdeal_ReferenceMergeIdeal := by
  pair_intro
  · run_from Cert.KernelMergeIdeal.Gen.run_main m g
  · run_from Cert.ReferenceMergeIdeal.Value.run m' g'
    refine (Cert.KernelMergeIdeal.RefValue.reference_eq m' c).trans ?_
    simp only [hagree c]
    exact (Cert.KernelMergeIdeal.RefValue.final m c).symm

end Cert.Proof.Merge

end
-- ==== Proof.ProjStages.lean ====
/- The input projection, first half: the reference cut into stages (the projection of the modulated norm, the table of
   angles, the per-head norms, the rotation, the four results), and the entries of the kernel's input blocks and of its
   transposed projection in those terms. -/
module

public import proofs.«01_k».proof.Proof.Gen.KernelProjIdeal.Frame
public import proofs.«01_k».proof.Proof.Gen.ReferenceProjIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelProjIdeal.RefValue

open Cert.KernelProjIdeal Cert.KernelProjIdeal.Gen

/-- The reference's projection of the modulated norm of the stream on all columns of the weight. -/
def proj (x : FVec Ideal Cert.ReferenceProjIdeal.S8x2048x1024 .f32) (sh sc : FVec Ideal Cert.ReferenceProjIdeal.S8x1x1024 .f32) (g : FVec Ideal Cert.ReferenceProjIdeal.S1x1024 .f32)
    (w : FVec Ideal Cert.ReferenceProjIdeal.S1x1024x4096 .f32) : FVec Ideal Cert.ReferenceProjIdeal.S8x2048x4096 .f32 :=
  Host.dotGeneral Cert.ReferenceProjIdeal.dot_S8x2048x1024_S1024x4096_S8x2048x4096_2_0_01_1_n_n none
    (addf (mulf (mulf (mulf x (broadcastInDim Cert.ReferenceProjIdeal.S8x2048x1024 ![0, 1, 2] Cert.ReferenceProjIdeal.Gen.bcast_S8x2048x1_S8x2048x1024_0_1_2
      (Host.rsqrt (addf (Host.divf (broadcastInDim Cert.ReferenceProjIdeal.S8x2048x1 ![0, 1] Cert.ReferenceProjIdeal.Gen.bcast_S8x2048_S8x2048x1_0_1
        (Host.reduceAdd (mulf x x) (constant Cert.ReferenceProjIdeal.S_ .f32 0x00000000#32) Cert.ReferenceProjIdeal.Gen.reducesTo_S8x2048x1024_S8x2048_d2 Cert.ReferenceProjIdeal.Gen.h_S_))
        (broadcastInDim Cert.ReferenceProjIdeal.S8x2048x1 ![] Cert.ReferenceProjIdeal.Gen.bcast_S_S8x2048x1 (constant Cert.ReferenceProjIdeal.S_ .f32 0x44800000#32)))
        (broadcastInDim Cert.ReferenceProjIdeal.S8x2048x1 ![] Cert.ReferenceProjIdeal.Gen.bcast_S_S8x2048x1 (constant Cert.ReferenceProjIdeal.S_ .f32 0x358637BD#32))))))
      (broadcastInDim Cert.ReferenceProjIdeal.S8x2048x1024 ![0, 1, 2] Cert.ReferenceProjIdeal.Gen.bcast_S1x1x1024_S8x2048x1024_0_1_2
        (broadcastInDim Cert.ReferenceProjIdeal.S1x1x1024 ![2] Cert.ReferenceProjIdeal.Gen.bcast_S1024_S1x1x1024_2 (shapeCast _ g Cert.ReferenceProjIdeal.Gen.shapeCasts_S1x1024_S1024))))
      (broadcastInDim Cert.ReferenceProjIdeal.S8x2048x1024 ![0, 1, 2] Cert.ReferenceProjIdeal.Gen.bcast_S8x1x1024_S8x2048x1024_0_1_2
        (addf (broadcastInDim Cert.ReferenceProjIdeal.S8x1x1024 ![] Cert.ReferenceProjIdeal.Gen.bcast_S_S8x1x1024 (constant Cert.ReferenceProjIdeal.S_ .f32 0x3F800000#32)) sc)))
      (broadcastInDim Cert.ReferenceProjIdeal.S8x2048x1024 ![0, 1, 2] Cert.ReferenceProjIdeal.Gen.bcast_S8x1x1024_S8x2048x1024_0_1_2 sh))
    (shapeCast _ w Cert.ReferenceProjIdeal.Gen.shapeCasts_S1x1024x4096_S1024x4096)

/-- The frequencies of one position axis. -/
def freqs : FVec Ideal Cert.ReferenceProjIdeal.S16 .f32 :=
  (Host.powf (broadcastInDim Cert.ReferenceProjIdeal.S16 ![] Cert.ReferenceProjIdeal.Gen.bcast_S_S16 (constant Cert.ReferenceProjIdeal.S_ .f32 0x461C4000#32)) (Host.divf (Host.negf (addf
    (broadcastInDim Cert.ReferenceProjIdeal.S16 ![] Cert.ReferenceProjIdeal.Gen.bcast_S_S16 (constant Cert.ReferenceProjIdeal.S_ .f32 0x00000000#32)) (mulf (broadcastInDim Cert.ReferenceProjIdeal.S16 ![] Cert.ReferenceProjIdeal.Gen.bcast_S_S16 (constant Cert.ReferenceProjIdeal.S_ .f32 0x40000000#32))
    (sitofp .f32 (iotaInDim Cert.ReferenceProjIdeal.S16 32 0))))) (broadcastInDim Cert.ReferenceProjIdeal.S16 ![] Cert.ReferenceProjIdeal.Gen.bcast_S_S16 (constant Cert.ReferenceProjIdeal.S_ .f32 0x42000000#32))))

/-- The angles of every position: its row times the frequencies, then its column times the frequencies. -/
def angles : FVec Ideal Cert.ReferenceProjIdeal.S2048x32 .f32 :=
  concatenate Cert.ReferenceProjIdeal.S2048x32 1
    [⟨Cert.ReferenceProjIdeal.S2048x16, (mulf (broadcastInDim Cert.ReferenceProjIdeal.S2048x16 ![0, 1] Cert.ReferenceProjIdeal.Gen.bcast_S2048x1_S2048x16_0_1 (broadcastInDim Cert.ReferenceProjIdeal.S2048x1 ![0] Cert.ReferenceProjIdeal.Gen.bcast_S2048_S2048x1_0
        (shapeCast _ (broadcastInDim Cert.ReferenceProjIdeal.S32x64 ![0] Cert.ReferenceProjIdeal.Gen.bcast_S32_S32x64_0 (sitofp .f32 (iotaInDim Cert.ReferenceProjIdeal.S32 32 0))) Cert.ReferenceProjIdeal.Gen.shapeCasts_S32x64_S2048)))
        (broadcastInDim Cert.ReferenceProjIdeal.S2048x16 ![0, 1] Cert.ReferenceProjIdeal.Gen.bcast_S1x16_S2048x16_0_1 (broadcastInDim Cert.ReferenceProjIdeal.S1x16 ![1] Cert.ReferenceProjIdeal.Gen.bcast_S16_S1x16_1 freqs)))⟩,
     ⟨Cert.ReferenceProjIdeal.S2048x16, (mulf (broadcastInDim Cert.ReferenceProjIdeal.S2048x16 ![0, 1] Cert.ReferenceProjIdeal.Gen.bcast_S2048x1_S2048x16_0_1 (broadcastInDim Cert.ReferenceProjIdeal.S2048x1 ![0] Cert.ReferenceProjIdeal.Gen.bcast_S2048_S2048x1_0
        (shapeCast _ (broadcastInDim Cert.ReferenceProjIdeal.S32x64 ![0, 1] Cert.ReferenceProjIdeal.Gen.bcast_S1x64_S32x64_0_1 (shapeCast _ (sitofp .f32 (iotaInDim Cert.ReferenceProjIdeal.S64 32 0)) Cert.ReferenceProjIdeal.Gen.shapeCasts_S64_S1x64)) Cert.ReferenceProjIdeal.Gen.shapeCasts_S32x64_S2048)))
        (broadcastInDim Cert.ReferenceProjIdeal.S2048x16 ![0, 1] Cert.ReferenceProjIdeal.Gen.bcast_S1x16_S2048x16_0_1 (broadcastInDim Cert.ReferenceProjIdeal.S1x16 ![1] Cert.ReferenceProjIdeal.Gen.bcast_S16_S1x16_1 freqs)))⟩]
    Cert.ReferenceProjIdeal.Gen.concatenates_S2048x16_S2048x16_S2048x32_d1

/-- The query columns of the projection split into heads. -/
def queryCols (z : FVec Ideal Cert.ReferenceProjIdeal.S8x2048x4096 .f32) : FVec Ideal Cert.ReferenceProjIdeal.S8x2048x16x64 .f32 :=
  shapeCast _ (extractStridedSlice Cert.ReferenceProjIdeal.S8x2048x1024 ![0, 0, 0] z Cert.ReferenceProjIdeal.Gen.slices_S8x2048x4096_S8x2048x1024_0_0_0) Cert.ReferenceProjIdeal.Gen.shapeCasts_S8x2048x1024_S8x2048x16x64

/-- The query heads divided by their root mean square, times the gain. -/
def queryNorm (z : FVec Ideal Cert.ReferenceProjIdeal.S8x2048x4096 .f32) (g : FVec Ideal Cert.ReferenceProjIdeal.S1x64 .f32) : FVec Ideal Cert.ReferenceProjIdeal.S8x2048x16x64 .f32 :=
  mulf (mulf (queryCols z) (broadcastInDim Cert.ReferenceProjIdeal.S8x2048x16x64 ![0, 1, 2, 3] Cert.ReferenceProjIdeal.Gen.bcast_S8x2048x16x1_S8x2048x16x64_0_1_2_3
      (Host.rsqrt (addf (Host.divf (broadcastInDim Cert.ReferenceProjIdeal.S8x2048x16x1 ![0, 1, 2] Cert.ReferenceProjIdeal.Gen.bcast_S8x2048x16_S8x2048x16x1_0_1_2
        (Host.reduceAdd (mulf (queryCols z) (queryCols z)) (constant Cert.ReferenceProjIdeal.S_ .f32 0x00000000#32) Cert.ReferenceProjIdeal.Gen.reducesTo_S8x2048x16x64_S8x2048x16_d3 Cert.ReferenceProjIdeal.Gen.h_S_))
        (broadcastInDim Cert.ReferenceProjIdeal.S8x2048x16x1 ![] Cert.ReferenceProjIdeal.Gen.bcast_S_S8x2048x16x1 (constant Cert.ReferenceProjIdeal.S_ .f32 0x42800000#32)))
        (broadcastInDim Cert.ReferenceProjIdeal.S8x2048x16x1 ![] Cert.ReferenceProjIdeal.Gen.bcast_S_S8x2048x16x1 (constant Cert.ReferenceProjIdeal.S_ .f32 0x358637BD#32))))))
    (broadcastInDim Cert.ReferenceProjIdeal.S8x2048x16x64 ![0, 1, 2, 3] Cert.ReferenceProjIdeal.Gen.bcast_S1x1x1x64_S8x2048x16x64_0_1_2_3
      (broadcastInDim Cert.ReferenceProjIdeal.S1x1x1x64 ![3] Cert.ReferenceProjIdeal.Gen.bcast_S64_S1x1x1x64_3 (shapeCast _ g Cert.ReferenceProjIdeal.Gen.shapeCasts_S1x64_S64)))

/-- A table of angles' cosines or sines laid over the query heads. -/
def queryTable (a : FVec Ideal Cert.ReferenceProjIdeal.S2048x32 .f32) : FVec Ideal Cert.ReferenceProjIdeal.S8x2048x16x32 .f32 :=
  broadcastInDim Cert.ReferenceProjIdeal.S8x2048x16x32 ![0, 1, 2, 3] Cert.ReferenceProjIdeal.Gen.bcast_S1x2048x1x32_S8x2048x16x32_0_1_2_3
    (broadcastInDim Cert.ReferenceProjIdeal.S1x2048x1x32 ![1, 2, 3] Cert.ReferenceProjIdeal.Gen.bcast_S2048x1x32_S1x2048x1x32_1_2_3
      (broadcastInDim Cert.ReferenceProjIdeal.S2048x1x32 ![0, 2] Cert.ReferenceProjIdeal.Gen.bcast_S2048x32_S2048x1x32_0_2 a))

/-- The query heads rotated: each half with the other by the position's angles. -/
def queryRope (x : FVec Ideal Cert.ReferenceProjIdeal.S8x2048x16x64 .f32) (co si : FVec Ideal Cert.ReferenceProjIdeal.S2048x32 .f32) : FVec Ideal Cert.ReferenceProjIdeal.S8x2048x16x64 .f32 :=
  concatenate Cert.ReferenceProjIdeal.S8x2048x16x64 3
    [⟨Cert.ReferenceProjIdeal.S8x2048x16x32, (subf
        (mulf (extractStridedSlice Cert.ReferenceProjIdeal.S8x2048x16x32 ![0, 0, 0, 0] x Cert.ReferenceProjIdeal.Gen.slices_S8x2048x16x64_S8x2048x16x32_0_0_0_0) (queryTable co))
        (mulf (extractStridedSlice Cert.ReferenceProjIdeal.S8x2048x16x32 ![0, 0, 0, 32] x Cert.ReferenceProjIdeal.Gen.slices_S8x2048x16x64_S8x2048x16x32_0_0_0_32) (queryTable si)))⟩,
     ⟨Cert.ReferenceProjIdeal.S8x2048x16x32, (addf
        (mulf (extractStridedSlice Cert.ReferenceProjIdeal.S8x2048x16x32 ![0, 0, 0, 32] x Cert.ReferenceProjIdeal.Gen.slices_S8x2048x16x64_S8x2048x16x32_0_0_0_32) (queryTable co))
        (mulf (extractStridedSlice Cert.ReferenceProjIdeal.S8x2048x16x32 ![0, 0, 0, 0] x Cert.ReferenceProjIdeal.Gen.slices_S8x2048x16x64_S8x2048x16x32_0_0_0_0) (queryTable si)))⟩]
    Cert.ReferenceProjIdeal.Gen.concatenates_S8x2048x16x32_S8x2048x16x32_S8x2048x16x64_d3

/-- The key columns of the projection split into heads. -/
def keyCols (z : FVec Ideal Cert.ReferenceProjIdeal.S8x2048x4096 .f32) : FVec Ideal Cert.ReferenceProjIdeal.S8x2048x4x64 .f32 :=
  shapeCast _ (extractStridedSlice Cert.ReferenceProjIdeal.S8x2048x256 ![0, 0, 1024] z Cert.ReferenceProjIdeal.Gen.slices_S8x2048x4096_S8x2048x256_0_0_1024) Cert.ReferenceProjIdeal.Gen.shapeCasts_S8x2048x256_S8x2048x4x64

/-- The key heads divided by their root mean square, times the gain. -/
def keyNorm (z : FVec Ideal Cert.ReferenceProjIdeal.S8x2048x4096 .f32) (g : FVec Ideal Cert.ReferenceProjIdeal.S1x64 .f32) : FVec Ideal Cert.ReferenceProjIdeal.S8x2048x4x64 .f32 :=
  mulf (mulf (keyCols z) (broadcastInDim Cert.ReferenceProjIdeal.S8x2048x4x64 ![0, 1, 2, 3] Cert.ReferenceProjIdeal.Gen.bcast_S8x2048x4x1_S8x2048x4x64_0_1_2_3
      (Host.rsqrt (addf (Host.divf (broadcastInDim Cert.ReferenceProjIdeal.S8x2048x4x1 ![0, 1, 2] Cert.ReferenceProjIdeal.Gen.bcast_S8x2048x4_S8x2048x4x1_0_1_2
        (Host.reduceAdd (mulf (keyCols z) (keyCols z)) (constant Cert.ReferenceProjIdeal.S_ .f32 0x00000000#32) Cert.ReferenceProjIdeal.Gen.reducesTo_S8x2048x4x64_S8x2048x4_d3 Cert.ReferenceProjIdeal.Gen.h_S_))
        (broadcastInDim Cert.ReferenceProjIdeal.S8x2048x4x1 ![] Cert.ReferenceProjIdeal.Gen.bcast_S_S8x2048x4x1 (constant Cert.ReferenceProjIdeal.S_ .f32 0x42800000#32)))
        (broadcastInDim Cert.ReferenceProjIdeal.S8x2048x4x1 ![] Cert.ReferenceProjIdeal.Gen.bcast_S_S8x2048x4x1 (constant Cert.ReferenceProjIdeal.S_ .f32 0x358637BD#32))))))
    (broadcastInDim Cert.ReferenceProjIdeal.S8x2048x4x64 ![0, 1, 2, 3] Cert.ReferenceProjIdeal.Gen.bcast_S1x1x1x64_S8x2048x4x64_0_1_2_3
      (broadcastInDim Cert.ReferenceProjIdeal.S1x1x1x64 ![3] Cert.ReferenceProjIdeal.Gen.bcast_S64_S1x1x1x64_3 (shapeCast _ g Cert.ReferenceProjIdeal.Gen.shapeCasts_S1x64_S64)))

/-- A table of angles' cosines or sines laid over the key heads. -/
def keyTable (a : FVec Ideal Cert.ReferenceProjIdeal.S2048x32 .f32) : FVec Ideal Cert.ReferenceProjIdeal.S8x2048x4x32 .f32 :=
  broadcastInDim Cert.ReferenceProjIdeal.S8x2048x4x32 ![0, 1, 2, 3] Cert.ReferenceProjIdeal.Gen.bcast_S1x2048x1x32_S8x2048x4x32_0_1_2_3
    (broadcastInDim Cert.ReferenceProjIdeal.S1x2048x1x32 ![1, 2, 3] Cert.ReferenceProjIdeal.Gen.bcast_S2048x1x32_S1x2048x1x32_1_2_3
      (broadcastInDim Cert.ReferenceProjIdeal.S2048x1x32 ![0, 2] Cert.ReferenceProjIdeal.Gen.bcast_S2048x32_S2048x1x32_0_2 a))

/-- The key heads rotated: each half with the other by the position's angles. -/
def keyRope (x : FVec Ideal Cert.ReferenceProjIdeal.S8x2048x4x64 .f32) (co si : FVec Ideal Cert.ReferenceProjIdeal.S2048x32 .f32) : FVec Ideal Cert.ReferenceProjIdeal.S8x2048x4x64 .f32 :=
  concatenate Cert.ReferenceProjIdeal.S8x2048x4x64 3
    [⟨Cert.ReferenceProjIdeal.S8x2048x4x32, (subf
        (mulf (extractStridedSlice Cert.ReferenceProjIdeal.S8x2048x4x32 ![0, 0, 0, 0] x Cert.ReferenceProjIdeal.Gen.slices_S8x2048x4x64_S8x2048x4x32_0_0_0_0) (keyTable co))
        (mulf (extractStridedSlice Cert.ReferenceProjIdeal.S8x2048x4x32 ![0, 0, 0, 32] x Cert.ReferenceProjIdeal.Gen.slices_S8x2048x4x64_S8x2048x4x32_0_0_0_32) (keyTable si)))⟩,
     ⟨Cert.ReferenceProjIdeal.S8x2048x4x32, (addf
        (mulf (extractStridedSlice Cert.ReferenceProjIdeal.S8x2048x4x32 ![0, 0, 0, 32] x Cert.ReferenceProjIdeal.Gen.slices_S8x2048x4x64_S8x2048x4x32_0_0_0_32) (keyTable co))
        (mulf (extractStridedSlice Cert.ReferenceProjIdeal.S8x2048x4x32 ![0, 0, 0, 0] x Cert.ReferenceProjIdeal.Gen.slices_S8x2048x4x64_S8x2048x4x32_0_0_0_0) (keyTable si)))⟩]
    Cert.ReferenceProjIdeal.Gen.concatenates_S8x2048x4x32_S8x2048x4x32_S8x2048x4x64_d3

/-- The reference's queries: rotated norms times the softmax scale, the positions last. -/
def queries (z : FVec Ideal Cert.ReferenceProjIdeal.S8x2048x4096 .f32) (g : FVec Ideal Cert.ReferenceProjIdeal.S1x64 .f32) (co si : FVec Ideal Cert.ReferenceProjIdeal.S2048x32 .f32) :
    FVec Ideal Cert.ReferenceProjIdeal.S8x1024x2048 .bf16 :=
  truncf .bf16 (transpose Cert.ReferenceProjIdeal.S8x1024x2048 [0, 2, 1] (shapeCast _ (mulf (queryRope (queryNorm z g) co si)
    (broadcastInDim Cert.ReferenceProjIdeal.S8x2048x16x64 ![] Cert.ReferenceProjIdeal.Gen.bcast_S_S8x2048x16x64 (constant Cert.ReferenceProjIdeal.S_ .f32 0x3E000000#32))) Cert.ReferenceProjIdeal.Gen.shapeCasts_S8x2048x16x64_S8x2048x1024)
    Cert.ReferenceProjIdeal.Gen.transposes_S8x2048x1024_S8x1024x2048_0_2_1) Cert.ReferenceProjIdeal.Gen.bitsLt_bf16_f32

/-- The reference's keys: rotated norms. -/
def keys (z : FVec Ideal Cert.ReferenceProjIdeal.S8x2048x4096 .f32) (g : FVec Ideal Cert.ReferenceProjIdeal.S1x64 .f32) (co si : FVec Ideal Cert.ReferenceProjIdeal.S2048x32 .f32) :
    FVec Ideal Cert.ReferenceProjIdeal.S8x2048x256 .bf16 :=
  truncf .bf16 (shapeCast _ (keyRope (keyNorm z g) co si) Cert.ReferenceProjIdeal.Gen.shapeCasts_S8x2048x4x64_S8x2048x256) Cert.ReferenceProjIdeal.Gen.bitsLt_bf16_f32

/-- The reference's values, the positions last. -/
def values (z : FVec Ideal Cert.ReferenceProjIdeal.S8x2048x4096 .f32) : FVec Ideal Cert.ReferenceProjIdeal.S8x256x2048 .bf16 :=
  truncf .bf16 (transpose Cert.ReferenceProjIdeal.S8x256x2048 [0, 2, 1] (extractStridedSlice Cert.ReferenceProjIdeal.S8x2048x256 ![0, 0, 1280] z Cert.ReferenceProjIdeal.Gen.slices_S8x2048x4096_S8x2048x256_0_0_1280)
    Cert.ReferenceProjIdeal.Gen.transposes_S8x2048x256_S8x256x2048_0_2_1) Cert.ReferenceProjIdeal.Gen.bitsLt_bf16_f32

/-- The reference's Fourier channels. -/
def fourier (z : FVec Ideal Cert.ReferenceProjIdeal.S8x2048x4096 .f32) : FVec Ideal Cert.ReferenceProjIdeal.S8x2048x512 .bf16 :=
  truncf .bf16 (extractStridedSlice Cert.ReferenceProjIdeal.S8x2048x512 ![0, 0, 1536] z Cert.ReferenceProjIdeal.Gen.slices_S8x2048x4096_S8x2048x512_0_0_1536) Cert.ReferenceProjIdeal.Gen.bitsLt_bf16_f32

/-- The reference's composed term of the queries is its stages, one after the other. -/
theorem queries_eq (m : (ℓ : Loc Cert.ReferenceProjIdeal.nD Cert.ReferenceProjIdeal.τ Cert.ReferenceProjIdeal.sig) → Buf (Elt Ideal) ℓ) (c : Dev Cert.ReferenceProjIdeal.nD) :
    Cert.ReferenceProjIdeal.Value.res_out0 m c = queries (proj (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3)) (m ((c.tc : Thread Cert.ReferenceProjIdeal.nD Cert.ReferenceProjIdeal.τ).loc Cert.ReferenceProjIdeal.main_arg4))) (m ((c.tc : Thread Cert.ReferenceProjIdeal.nD Cert.ReferenceProjIdeal.τ).loc Cert.ReferenceProjIdeal.main_arg5)) (Host.cos angles) (Host.sin angles) := by
  unfold Cert.ReferenceProjIdeal.Value.res_out0 Cert.ReferenceProjIdeal.Value.res_main_v127 queries queryRope queryNorm queryCols queryTable angles freqs proj
  rfl

/-- The reference's composed term of the keys is its stages, one after the other. -/
theorem keys_eq (m : (ℓ : Loc Cert.ReferenceProjIdeal.nD Cert.ReferenceProjIdeal.τ Cert.ReferenceProjIdeal.sig) → Buf (Elt Ideal) ℓ) (c : Dev Cert.ReferenceProjIdeal.nD) :
    Cert.ReferenceProjIdeal.Value.res_out1 m c = keys (proj (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3)) (m ((c.tc : Thread Cert.ReferenceProjIdeal.nD Cert.ReferenceProjIdeal.τ).loc Cert.ReferenceProjIdeal.main_arg4))) (m ((c.tc : Thread Cert.ReferenceProjIdeal.nD Cert.ReferenceProjIdeal.τ).loc Cert.ReferenceProjIdeal.main_arg6)) (Host.cos angles) (Host.sin angles) := by
  unfold Cert.ReferenceProjIdeal.Value.res_out1 Cert.ReferenceProjIdeal.Value.res_main_v129 keys keyRope keyNorm keyCols keyTable angles freqs proj
  rfl

variable (m : (ℓ : Loc nD τ sig) → Buf (Elt Ideal) ℓ)

/-- The block every window shows at grid point `t`, decided over the grid. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0] ∧ win0_5.index t = ![0, 0]
    ∧ win0_6.index t = ![0, 0] ∧ win0_7.index t = ![0, 0] ∧ win0_8.index t = ![0, t.val % 4] ∧ win0_9.index t = ![0, t.val % 4]
    ∧ win0_10.index t = ![t.val / 4, 0, t.val % 4] ∧ win0_11.index t = ![t.val / 4, t.val % 4, 0]
    ∧ win0_12.index t = ![t.val / 4, 0, t.val % 4] ∧ win0_13.index t = ![t.val / 4, t.val % 4, 0] :=
  (by decide +kernel : ∀ t : Fin grid0.N, _)

set_option maxHeartbeats 2000000 in
/-- The kernel's transposed projection at a grid point is the reference's projection at the point's rows. -/
theorem proj_at (c : Dev nD) (t : Fin cfg0.N) (ht : t.val < 32) (n : Fin 1536) (r : Fin 512) :
    k0_pay5 (F := Ideal) (iblk m c 0 t) (iblk m c 3 t) (iblk m c 1 t) (iblk m c 2 t) (iblk m c 4 t) (ix2 n r)
      = proj (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val / 4, by omega⟩ ⟨t.val % 4 * 512 + r.val, by omega⟩ ⟨n.val, by omega⟩) := by
  pointwise [k0_pay5, k0_pay4, proj]
  blk_point [iblk, V, idx t]

set_option maxHeartbeats 2000000 in
/-- The kernel's Fourier channels at a grid point are the reference's at the point's rows. -/
theorem fourier_at (c : Dev nD) (t : Fin cfg0.N) (ht : t.val < 32) (z : Fin 1) (r n : Fin 512) :
    k0_pay3 (F := Ideal) (k0_pay4 (iblk m c 0 t) (iblk m c 3 t) (iblk m c 1 t) (iblk m c 2 t)) (iblk m c 5 t) (ix3 z r n)
      = fourier (proj (m ((c : Thread nD τ).loc main_arg0)) (m ((c : Thread nD τ).loc main_arg1)) (m ((c : Thread nD τ).loc main_arg2)) (m ((c : Thread nD τ).loc main_arg3)) (m ((c : Thread nD τ).loc main_arg4))) (ix3 ⟨t.val / 4, by omega⟩ ⟨t.val % 4 * 512 + r.val, by omega⟩ n) := by
  pointwise [k0_pay3, k0_pay4, fourier, proj]
  blk_point [iblk, V, idx t]

/-- The gain times the softmax scale. -/
def scaled (g : FVec Ideal Cert.ReferenceProjIdeal.S1x64 .f32) : FVec Ideal Cert.ReferenceProjIdeal.S1x64 .f32 := mulf g (constant Cert.ReferenceProjIdeal.S1x64 .f32 0x3E000000#32)

set_option maxHeartbeats 2000000 in
/-- An entry of the query gain's block is the gain times the softmax scale. -/
theorem query_gain_at (c : Dev nD) (t : Fin cfg0.N) (d : Fin 64) (r : Fin 512) :
    (iblk m c 6 t) (ix2 d r) = scaled (m ((c : Thread nD τ).loc main_arg5)) (ix2 0 d) := by
  blk_simp [iblk, idx t]
  entry_read
  pointwise [scaled]
  congr 1
  blk_ext [idx t]

set_option maxHeartbeats 2000000 in
/-- An entry of the key gain's block is the gain. -/
theorem key_gain_at (c : Dev nD) (t : Fin cfg0.N) (d : Fin 64) (r : Fin 512) :
    (iblk m c 7 t) (ix2 d r) = ((m ((c : Thread nD τ).loc main_arg6)) : FVec Ideal Cert.ReferenceProjIdeal.S1x64 .f32) (ix2 0 d) := by
  blk_point [iblk, V, idx t]

set_option maxHeartbeats 2000000 in
/-- An entry of the cosine block is the cosine of the reference's angle at the point's positions. -/
theorem cos_at (c : Dev nD) (t : Fin cfg0.N) (e : Fin 32) (r : Fin 512) :
    (iblk m c 8 t) (ix2 e r) = Host.cos angles (ix2 ⟨t.val % 4 * 512 + r.val, by omega⟩ e) := by
  pointwise [angles, freqs]
  blk_point [iblk, V, idx t]

set_option maxHeartbeats 2000000 in
/-- An entry of the sine block is the sine of the reference's angle at the point's positions. -/
theorem sin_at (c : Dev nD) (t : Fin cfg0.N) (e : Fin 32) (r : Fin 512) :
    (iblk m c 9 t) (ix2 e r) = Host.sin angles (ix2 ⟨t.val % 4 * 512 + r.val, by omega⟩ e) := by
  pointwise [angles, freqs]
  blk_point [iblk, V, idx t]

end Cert.KernelProjIdeal.RefValue

end
-- ==== Proof.ProjHeads.lean ====
/- The input projection, second half: one head of the kernel (rows `o … o + 63` of the transposed projection) at any offset
   `o`, read at an entry; and the reference's rotated queries and keys at an entry. -/
module

public import proofs.«01_k».proof.Proof.Gen.KernelProjIdeal.Frame
public import proofs.«01_k».proof.Proof.Gen.ReferenceProjIdeal.Run
public import Idealize.ShloMosaic.Lib.Pipeline.ValueKit
public import Idealize.ShloMosaic.Lib.Pointwise
public import Idealize.ShloMosaic.Lib.Claim
public import proofs.«01_k».proof.Proof.ProjStages

@[expose] public section

set_option maxRecDepth 16384

noncomputable section

open Idealize.ShloMosaic Idealize.ShloMosaic.TcCoe Idealize.SL.Sem
open Idealize.ShloMosaic.Pipeline (Dat)

namespace Cert.KernelProjIdeal.RefValue

open Cert.KernelProjIdeal Cert.KernelProjIdeal.Gen

/-- One head of the kernel: 64 rows of the transposed projection from row `o` on, divided by their root mean square, times
    the gain. -/
def headNorm (o : ℕ) (hs : S1536x512.Slices ![o, 0] S64x512) (z : FVec Ideal S1536x512 .f32) (g : FVec Ideal S64x512 .f32) :
    FVec Ideal S64x512 .f32 :=
  mulf (mulf (extractStridedSlice S64x512 ![o, 0] z hs)
    (broadcastTo S64x512 (rsqrt (addf (divf (shapeCast S1x512 (multiReduction .add [0] S512
      (mulf (extractStridedSlice S64x512 ![o, 0] z hs) (extractStridedSlice S64x512 ![o, 0] z hs)) 0x00000000#32
      reduces_S64x512_S512 (.inl rfl) rfl) shapeCasts_S512_S1x512) (broadcast S1x512 (Scalar.ofBits .f32 0x42800000#32)))
      (broadcast S1x512 (Scalar.ofBits .f32 0x358637BD#32)))) broadcasts_S1x512_S64x512)) g

/-- The first half of a rotated head. -/
def headLo (o : ℕ) (hs : S1536x512.Slices ![o, 0] S64x512) (z : FVec Ideal S1536x512 .f32) (co si : FVec Ideal S32x512 .f32)
    (g : FVec Ideal S64x512 .f32) : FVec Ideal S32x512 .f32 :=
  subf (mulf (extractStridedSlice S32x512 ![0, 0] (headNorm o hs z g) slices_S64x512_o0_0_S32x512) co)
    (mulf (extractStridedSlice S32x512 ![32, 0] (headNorm o hs z g) slices_S64x512_o32_0_S32x512) si)

/-- The second half of a rotated head. -/
def headHi (o : ℕ) (hs : S1536x512.Slices ![o, 0] S64x512) (z : FVec Ideal S1536x512 .f32) (co si : FVec Ideal S32x512 .f32)
    (g : FVec Ideal S64x512 .f32) : FVec Ideal S32x512 .f32 :=
  addf (mulf (extractStridedSlice S32x512 ![32, 0] (headNorm o hs z g) slices_S64x512_o32_0_S32x512) co)
    (mulf (extractStridedSlice S32x512 ![0, 0] (headNorm o hs z g) slices_S64x512_o0_0_S32x512) si)

/-- A real factor that is not negative moves out of both products of a difference. -/
theorem scale_sub (a ga x b gb y c : EReal) (hc : 0 ≤ c) (hc' : c ≠ ⊤) :
    a * (ga * c) * x - b * (gb * c) * y = (a * ga * x - b * gb * y) * c := by
  rw [mul_comm (_ - _) c, EReal.mul_sub_of_nonneg_of_ne_top hc hc']
  congr 1 <;> ac_rfl

/-- A real factor that is not negative moves out of both products of a sum. -/
theorem scale_add (a ga x b gb y c : EReal) (hc : 0 ≤ c) (hc' : c ≠ ⊤) :
    a * (ga * c) * x + b * (gb * c) * y = (a * ga * x + b * gb * y) * c := by
  rw [EReal.right_distrib_of_nonneg_of_ne_top hc hc']
  congr 1 <;> ac_rfl

/-- The softmax scale's word is the real 1/8. -/
theorem scale_word : Ideal.ofBits .f32 0x3E000000#32 = ((1 / 8 : ℝ) : EReal) := by
  simp [Ideal.ofBits, Ideal.ieee, -EReal.coe_mul]
  norm_num

/-- The softmax scale is not negative. -/
theorem scale_nonneg : (0 : EReal) ≤ Ideal.ofBits .f32 0x3E000000#32 := by
  rw [scale_word]
  exact EReal.coe_nonneg.mpr (by norm_num)

/-- The softmax scale is not plus infinity. -/
theorem scale_ne_top : (Ideal.ofBits .f32 0x3E000000#32 : EReal) ≠ ⊤ := by
  rw [scale_word]
  exact EReal.coe_ne_top _

set_option maxHeartbeats 2000000 in
/-- The first half of a query head of the kernel is the reference's queries at that half's channels: the kernel's gain
    holds the softmax scale, which moves out of the rotation. -/
theorem queryLo_at (o : ℕ) (hs : S1536x512.Slices ![o, 0] S64x512) (ho : o + 64 ≤ 1024) (ho' : o % 64 = 0) (z : FVec Ideal S1536x512 .f32) (cz sz : FVec Ideal S32x512 .f32) (gz : FVec Ideal S64x512 .f32)
    (Z : FVec Ideal Cert.ReferenceProjIdeal.S8x2048x4096 .f32) (G : FVec Ideal Cert.ReferenceProjIdeal.S1x64 .f32) (co si : FVec Ideal Cert.ReferenceProjIdeal.S2048x32 .f32)
    (b : Fin 8) (s : Fin 2048) (r : Fin 512) (hZ : ∀ n : Fin 1536, z (ix2 n r) = Z (ix3 b s ⟨n.val, by omega⟩))
    (hco : ∀ e : Fin 32, cz (ix2 e r) = co (ix2 s e)) (hsi : ∀ e : Fin 32, sz (ix2 e r) = si (ix2 s e))
    (hg : ∀ d : Fin 64, gz (ix2 d r) = scaled G (ix2 0 d)) (n : Fin 1024) (e : Fin 32) (hn : (n : ℕ) = o + e.val) :
    headLo o hs z cz sz gz (ix2 e r) = queries Z G co si (ix3 b n s) := by
  obtain ⟨n, hlt⟩ := n
  simp only at hn
  subst hn
  have he := e.isLt
  pointwise [headLo, headNorm, queries, queryRope, queryNorm, queryCols, queryTable]
  simp only [hZ, hco, hsi, hg]
  rw [dif_pos (by omega)]
  simp only [show (o + e.val) / 64 * 64 = o by omega, show (o + e.val) % 64 = e.val by omega]
  exact scale_sub _ _ _ _ _ _ _ scale_nonneg scale_ne_top

set_option maxHeartbeats 2000000 in
/-- The first half of a key head of the kernel is the reference's keys at that half's channels. -/
theorem keyLo_at (o : ℕ) (hs : S1536x512.Slices ![1024 + o, 0] S64x512) (ho : o + 64 ≤ 256) (ho' : o % 64 = 0) (z : FVec Ideal S1536x512 .f32) (cz sz : FVec Ideal S32x512 .f32) (gz : FVec Ideal S64x512 .f32)
    (Z : FVec Ideal Cert.ReferenceProjIdeal.S8x2048x4096 .f32) (G : FVec Ideal Cert.ReferenceProjIdeal.S1x64 .f32) (co si : FVec Ideal Cert.ReferenceProjIdeal.S2048x32 .f32)
    (b : Fin 8) (s : Fin 2048) (r : Fin 512) (hZ : ∀ n : Fin 1536, z (ix2 n r) = Z (ix3 b s ⟨n.val, by omega⟩))
    (hco : ∀ e : Fin 32, cz (ix2 e r) = co (ix2 s e)) (hsi : ∀ e : Fin 32, sz (ix2 e r) = si (ix2 s e))
    (hg : ∀ d : Fin 64, gz (ix2 d r) = G (ix2 0 d)) (n : Fin 256) (e : Fin 32) (hn : (n : ℕ) = o + e.val) :
    headLo (1024 + o) hs z cz sz gz (ix2 e r) = keys Z G co si (ix3 b s n) := by
  obtain ⟨n, hlt⟩ := n
  simp only at hn
  subst hn
  have he := e.isLt
  pointwise [headLo, headNorm, keys, keyRope, keyNorm, keyCols, keyTable]
  simp only [hZ, hco, hsi, hg]
  rw [dif_pos (by omega)]
  simp only [show (o + e.val) / 64 * 64 = o by omega, show (o + e.val) % 64 = e.val by omega, Nat.add_assoc]

set_option maxHeartbeats 2000000 in
/-- The second half of a query head of the kernel is the reference's queries at that half's channels: the kernel's gain
    holds the softmax scale, which moves out of the rotation. -/
theorem queryHi_at (o : ℕ) (hs : S1536x512.Slices ![o, 0] S64x512) (ho : o + 64 ≤ 1024) (ho' : o % 64 = 0) (z : FVec Ideal S1536x512 .f32) (cz sz : FVec Ideal S32x512 .f32) (gz : FVec Ideal S64x512 .f32)
    (Z : FVec Ideal Cert.ReferenceProjIdeal.S8x2048x4096 .f32) (G : FVec Ideal Cert.ReferenceProjIdeal.S1x64 .f32) (co si : FVec Ideal Cert.ReferenceProjIdeal.S2048x32 .f32)
    (b : Fin 8) (s : Fin 2048) (r : Fin 512) (hZ : ∀ n : Fin 1536, z (ix2 n r) = Z (ix3 b s ⟨n.val, by omega⟩))
    (hco : ∀ e : Fin 32, cz (ix2 e r) = co (ix2 s e)) (hsi : ∀ e : Fin 32, sz (ix2 e r) = si (ix2 s e))
    (hg : ∀ d : Fin 64, gz (ix2 d r) = scaled G (ix2 0 d)) (n : Fin 1024) (e : Fin 32) (hn : (n : ℕ) = o + 32 + e.val) :
    headHi o hs z cz sz gz (ix2 e r) = queries Z G co si (ix3 b n s) := by
  obtain ⟨n, hlt⟩ := n
  simp only at hn
  subst hn
  have he := e.isLt
  pointwise [headHi, headNorm, queries, queryRope, queryNorm, queryCols, queryTable]
  simp only [hZ, hco, hsi, hg]
  rw [dif_neg (by omega)]
  simp only [show (o + 32 + e.val) / 64 * 64 = o by omega, show (o + 32 + e.val) % 64 - 32 = e.val by omega]
  exact scale_add _ _ _ _ _ _ _ scale_nonneg scale_ne_top

set_option maxHeartbeats 2000000 in
/-- The second half of a key head of the kernel is the reference's keys at that half's channels. -/
theorem keyHi_at (o : ℕ) (hs : S1536x512.Slices ![1024 + o, 0] S64x512) (ho : o + 64 ≤ 256) (ho' : o % 64 = 0) (z : FVec Ideal S1536x512 .f32) (cz sz : FVec Ideal S32x512 .f32) (gz : FVec Ideal S64x512 .f32)
    (Z : FVec Ideal Cert.ReferenceProjIdeal.S8x2048x4096 .f32) (G : FVec Ideal Cert.ReferenceProjIdeal.S1x64 .f32) (co si : FVec Ideal Cert.ReferenceProjIdeal.S2048x32 .f32)
    (b : Fin 8) (s : Fin 2048) (r : Fin 512) (hZ : ∀ n : Fin 1536, z (ix2 n r) = Z (ix3 b s ⟨n.val, by omega⟩))
    (hco : ∀ e : Fin 32, cz (ix2 e r) = co (ix2 s e)) (hsi : ∀ e : Fin 32, sz (ix2 e r) = si (ix2 s e))
    (hg : ∀ d : Fin 64, gz (ix2 d r) = G (ix2 0 d)) (n : Fin 256) (e : Fin 32) (hn : (n : ℕ) = o + 32 + e.val) :
    headHi (1024 + o) hs z cz sz gz (ix2 e r) = keys Z G co si (ix3 b s n) := by
  obtain ⟨n, hlt⟩ := n
  simp only at hn
  subst hn
  have he := e.isLt
  pointwise [headHi, headNorm, keys, keyRope, keyNorm, keyCols, keyTable]
  simp only [hZ, hco, hsi, hg]
  rw [dif_neg (by omega)]
  simp only [show (o + 32 + e.val) / 64 * 64 = o by omega, show (o + 32 + e.val) % 64 - 32 = e.val by omega]
  simp only [Nat.add_assoc]

end Cert.KernelProjIdeal.RefValue

end
-- ==== Proof.ProjValue.lean ====
/- The input projection: the blocks a grid point writes are the reference's four results at the blocks' places, and the
   result arrays after the run are the reference's terms. -/
module

public import proofs.«01_k».proof.Proof.Gen.KernelProjIdeal.Frame
public import proofs.«01_k».proof.Proof.Gen.ReferenceProjIdeal.Run
public import Idealize.ShloMosaic.Lib.Pipeline.ValueKit
public import Idealize.ShloMosaic.Lib.Pointwise
public import Idealize.ShloMosaic.Lib.Claim
public import proofs.«01_k».proof.Proof.ProjHeads

@[expose] public section

set_option maxRecDepth 16384

noncomputable section

open Idealize.ShloMosaic Idealize.ShloMosaic.TcCoe Idealize.SL.Sem
open Idealize.ShloMosaic.Pipeline (Dat)

namespace Cert.KernelProjIdeal.RefValue

open Cert.KernelProjIdeal Cert.KernelProjIdeal.Gen

variable (m : (ℓ : Loc nD τ sig) → Buf (Elt Ideal) ℓ)

/-- The transposed projection of a grid point at an entry. -/
theorem z_at (c : Dev nD) (t : Fin cfg0.N) (ht : t.val < 32) (n : Fin 1536) (r : Fin 512) :
    (k0_pay127 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 n r) = (proj (m ((c : Thread nD τ).loc main_arg0)) (m ((c : Thread nD τ).loc main_arg1)) (m ((c : Thread nD τ).loc main_arg2)) (m ((c : Thread nD τ).loc main_arg3)) (m ((c : Thread nD τ).loc main_arg4))) (ix3 ⟨t.val / 4, by omega⟩ ⟨t.val % 4 * 512 + r.val, by omega⟩ ⟨n.val, by omega⟩) := by
  unfold k0_pay127
  frame_out
  exact proj_at m c t ht n r

/-- The cosines of a grid point at an entry. -/
theorem co_at (c : Dev nD) (t : Fin cfg0.N) (e : Fin 32) (r : Fin 512) :
    (k0_pay128 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 e r) = Host.cos angles (ix2 ⟨t.val % 4 * 512 + r.val, by omega⟩ e) := by
  unfold k0_pay128
  frame_out
  refine Eq.trans ?_ (cos_at m c t e r)
  pointwise [k0_pay6]

/-- The sines of a grid point at an entry. -/
theorem si_at (c : Dev nD) (t : Fin cfg0.N) (e : Fin 32) (r : Fin 512) :
    (k0_pay129 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 e r) = Host.sin angles (ix2 ⟨t.val % 4 * 512 + r.val, by omega⟩ e) := by
  unfold k0_pay129
  frame_out
  refine Eq.trans ?_ (sin_at m c t e r)
  pointwise [k0_pay7]

/-- The query gain of a grid point at an entry. -/
theorem gq_at (c : Dev nD) (t : Fin cfg0.N) (d : Fin 64) (r : Fin 512) :
    (k0_pay130 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 d r) = scaled (m ((c : Thread nD τ).loc main_arg5)) (ix2 0 d) := by
  unfold k0_pay130
  frame_out
  refine Eq.trans ?_ (query_gain_at m c t d r)
  pointwise [k0_pay8]

/-- The key gain of a grid point at an entry. -/
theorem gk_at (c : Dev nD) (t : Fin cfg0.N) (d : Fin 64) (r : Fin 512) :
    (k0_pay131 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 d r) = ((m ((c : Thread nD τ).loc main_arg6)) : FVec Ideal Cert.ReferenceProjIdeal.S1x64 .f32) (ix2 0 d) := by
  unfold k0_pay131
  frame_out
  refine Eq.trans ?_ (key_gain_at m c t d r)
  pointwise [k0_pay9]

/-- The block of keys the kernel stores: the halves of its four key heads below one another, transposed. -/
def keysBlock (z : FVec Ideal S1536x512 .f32) (co si : FVec Ideal S32x512 .f32) (g : FVec Ideal S64x512 .f32) :
    FVec Ideal S1x512x256 .bf16 :=
  shapeCast S1x512x256 (truncf .bf16 (transpose S512x256 [1, 0] (concatenate S256x512 0
    [⟨S32x512, headLo 1024 slices_S1536x512_o1024_0_S64x512 z co si g⟩, ⟨S32x512, headHi 1024 slices_S1536x512_o1024_0_S64x512 z co si g⟩, ⟨S32x512, headLo 1088 slices_S1536x512_o1088_0_S64x512 z co si g⟩, ⟨S32x512, headHi 1088 slices_S1536x512_o1088_0_S64x512 z co si g⟩, ⟨S32x512, headLo 1152 slices_S1536x512_o1152_0_S64x512 z co si g⟩, ⟨S32x512, headHi 1152 slices_S1536x512_o1152_0_S64x512 z co si g⟩, ⟨S32x512, headLo 1216 slices_S1536x512_o1216_0_S64x512 z co si g⟩, ⟨S32x512, headHi 1216 slices_S1536x512_o1216_0_S64x512 z co si g⟩]
    concatenates_S32x512_S32x512_S32x512_S32x512_S32x512_S32x512_S32x512_S32x512_S256x512_d0) transposes_S256x512_p1_0_S512x256)
    bitsLt_bf16_f32) shapeCasts_S512x256_S1x512x256

set_option maxHeartbeats 2000000 in
/-- The block of keys at an entry is the reference's keys. -/
theorem keysBlock_at (z : FVec Ideal S1536x512 .f32) (cz sz : FVec Ideal S32x512 .f32) (gz : FVec Ideal S64x512 .f32)
    (Z : FVec Ideal Cert.ReferenceProjIdeal.S8x2048x4096 .f32) (G : FVec Ideal Cert.ReferenceProjIdeal.S1x64 .f32) (co si : FVec Ideal Cert.ReferenceProjIdeal.S2048x32 .f32)
    (b : Fin 8) (s : Fin 2048) (r : Fin 512) (hZ : ∀ n : Fin 1536, z (ix2 n r) = Z (ix3 b s ⟨n.val, by omega⟩))
    (hco : ∀ e : Fin 32, cz (ix2 e r) = co (ix2 s e)) (hsi : ∀ e : Fin 32, sz (ix2 e r) = si (ix2 s e))
    (hg : ∀ d : Fin 64, gz (ix2 d r) = G (ix2 0 d)) (u : Fin 1) (n : Fin 256) :
    keysBlock z cz sz gz (ix3 u r n) = keys Z G co si (ix3 b s n) := by
  have hn := n.isLt
  refine Eq.trans (b := (concatenate S256x512 0
    [⟨S32x512, headLo 1024 slices_S1536x512_o1024_0_S64x512 z cz sz gz⟩, ⟨S32x512, headHi 1024 slices_S1536x512_o1024_0_S64x512 z cz sz gz⟩, ⟨S32x512, headLo 1088 slices_S1536x512_o1088_0_S64x512 z cz sz gz⟩, ⟨S32x512, headHi 1088 slices_S1536x512_o1088_0_S64x512 z cz sz gz⟩, ⟨S32x512, headLo 1152 slices_S1536x512_o1152_0_S64x512 z cz sz gz⟩, ⟨S32x512, headHi 1152 slices_S1536x512_o1152_0_S64x512 z cz sz gz⟩, ⟨S32x512, headLo 1216 slices_S1536x512_o1216_0_S64x512 z cz sz gz⟩, ⟨S32x512, headHi 1216 slices_S1536x512_o1216_0_S64x512 z cz sz gz⟩]
    concatenates_S32x512_S32x512_S32x512_S32x512_S32x512_S32x512_S32x512_S32x512_S256x512_d0 : FVec Ideal S256x512 .f32) (ix2 n r)) (by pointwise [keysBlock]) ?_
  pointwise
  by_cases h0 : (n : ℕ) < 32
  · rw [dif_pos h0]
    exact keyLo_at 0 slices_S1536x512_o1024_0_S64x512 (by omega) (by omega) z cz sz gz Z G co si b s r hZ hco hsi hg _ _ (by simp only; omega)
  rw [dif_neg h0]
  by_cases h1 : (n : ℕ) - 32 < 32
  · rw [dif_pos h1]
    exact keyHi_at 0 slices_S1536x512_o1024_0_S64x512 (by omega) (by omega) z cz sz gz Z G co si b s r hZ hco hsi hg _ _ (by simp only; omega)
  rw [dif_neg h1]
  by_cases h2 : (n : ℕ) - 32 - 32 < 32
  · rw [dif_pos h2]
    exact keyLo_at 64 slices_S1536x512_o1088_0_S64x512 (by omega) (by omega) z cz sz gz Z G co si b s r hZ hco hsi hg _ _ (by simp only; omega)
  rw [dif_neg h2]
  by_cases h3 : (n : ℕ) - 32 - 32 - 32 < 32
  · rw [dif_pos h3]
    exact keyHi_at 64 slices_S1536x512_o1088_0_S64x512 (by omega) (by omega) z cz sz gz Z G co si b s r hZ hco hsi hg _ _ (by simp only; omega)
  rw [dif_neg h3]
  by_cases h4 : (n : ℕ) - 32 - 32 - 32 - 32 < 32
  · rw [dif_pos h4]
    exact keyLo_at 128 slices_S1536x512_o1152_0_S64x512 (by omega) (by omega) z cz sz gz Z G co si b s r hZ hco hsi hg _ _ (by simp only; omega)
  rw [dif_neg h4]
  by_cases h5 : (n : ℕ) - 32 - 32 - 32 - 32 - 32 < 32
  · rw [dif_pos h5]
    exact keyHi_at 128 slices_S1536x512_o1152_0_S64x512 (by omega) (by omega) z cz sz gz Z G co si b s r hZ hco hsi hg _ _ (by simp only; omega)
  rw [dif_neg h5]
  by_cases h6 : (n : ℕ) - 32 - 32 - 32 - 32 - 32 - 32 < 32
  · rw [dif_pos h6]
    exact keyLo_at 192 slices_S1536x512_o1216_0_S64x512 (by omega) (by omega) z cz sz gz Z G co si b s r hZ hco hsi hg _ _ (by simp only; omega)
  rw [dif_neg h6]
  exact keyHi_at 192 slices_S1536x512_o1216_0_S64x512 (by omega) (by omega) z cz sz gz Z G co si b s r hZ hco hsi hg _ _ (by simp only; omega)

/-- A half of a head as the kernel stores it. -/
def stored (x : FVec Ideal S32x512 .f32) : FVec Ideal S1x32x512 .bf16 :=
  shapeCast S1x32x512 (truncf .bf16 x bitsLt_bf16_f32) shapeCasts_S32x512_S1x32x512

/-- The stored half at an entry. -/
theorem stored_at (x : FVec Ideal S32x512 .f32) (u : Fin 1) (e : Fin 32) (r : Fin 512) : stored x (ix3 u e r) = x (ix2 e r) := by
  pointwise [stored]

/-- The first half of a query head as the kernel stores it is the reference's queries at the half's channels. -/
theorem storeLo_at (c : Dev nD) (t : Fin cfg0.N) (ht : t.val < 32) (o : ℕ) (hs : S1536x512.Slices ![o, 0] S64x512)
    (ho : o + 64 ≤ 1024) (ho' : o % 64 = 0) (u : Fin 1) (e : Fin 32) (r' : Fin 512) (n : Fin 1024) (r : Fin 512)
    (hn : (n : ℕ) = o + e.val) (hr : (r : ℕ) = r') :
    stored (headLo o hs (k0_pay127 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay128 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay129 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay130 (F := Ideal) (iblk m c 0 t) (iblk m c 1 t) (iblk m c 2 t) (iblk m c 3 t) (iblk m c 4 t) (iblk m c 5 t) (iblk m c 6 t) (iblk m c 7 t) (iblk m c 8 t) (iblk m c 9 t))) (ix3 u e r')
      = queries (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Host.cos angles) (Host.sin angles) (ix3 ⟨t.val / 4, by omega⟩ n ⟨t.val % 4 * 512 + r.val, by omega⟩) := by
  obtain rfl : r = r' := Fin.ext hr
  refine (stored_at _ u e r).trans ?_
  exact queryLo_at o hs ho ho' _ _ _ _ _ _ _ _ _ _ _ (fun n => z_at m c t ht n r) (fun e => co_at m c t e r)
    (fun e => si_at m c t e r) (fun d => gq_at m c t d r) n e hn

/-- The second half of a query head as the kernel stores it is the reference's queries at the half's channels. -/
theorem storeHi_at (c : Dev nD) (t : Fin cfg0.N) (ht : t.val < 32) (o : ℕ) (hs : S1536x512.Slices ![o, 0] S64x512)
    (ho : o + 64 ≤ 1024) (ho' : o % 64 = 0) (u : Fin 1) (e : Fin 32) (r' : Fin 512) (n : Fin 1024) (r : Fin 512)
    (hn : (n : ℕ) = o + 32 + e.val) (hr : (r : ℕ) = r') :
    stored (headHi o hs (k0_pay127 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay128 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay129 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay130 (F := Ideal) (iblk m c 0 t) (iblk m c 1 t) (iblk m c 2 t) (iblk m c 3 t) (iblk m c 4 t) (iblk m c 5 t) (iblk m c 6 t) (iblk m c 7 t) (iblk m c 8 t) (iblk m c 9 t))) (ix3 u e r')
      = queries (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Host.cos angles) (Host.sin angles) (ix3 ⟨t.val / 4, by omega⟩ n ⟨t.val % 4 * 512 + r.val, by omega⟩) := by
  obtain rfl : r = r' := Fin.ext hr
  refine (stored_at _ u e r).trans ?_
  exact queryHi_at o hs ho ho' _ _ _ _ _ _ _ _ _ _ _ (fun n => z_at m c t ht n r) (fun e => co_at m c t e r)
    (fun e => si_at m c t e r) (fun d => gq_at m c t d r) n e hn

set_option maxHeartbeats 2000000 in
/-- What the body stores as queries at block index `y` of point `t` is the reference's result at the array index `y` sits at. -/
theorem point_queries (c : Dev nD) (t : Fin cfg0.N) (y : S1x1024x512.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = queries (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Host.cos angles) (Host.sin angles) (((cfg0.win 10).blk t).view.emb y) := by
  have ht : t.val < 32 := lt_of_lt_of_eq t.isLt N_0
  idx_vars y
  refine Eq.trans (b := queries (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Host.cos angles) (Host.sin angles) (ix3 ⟨t.val / 4, by omega⟩ y1 ⟨t.val % 4 * 512 + y2.val, by omega⟩)) ?_
    (by blk_ext [idx t])
  unfold out0_10
  canon_tiles x h
  · idx_vars x
    have e1 : (y1 : ℕ) = 992 + (x1 : ℕ) := h1
    exact storeHi_at m c t ht 960 slices_S1536x512_o960_0_S64x512 (by omega) (by omega) x0 x1 x2 y1 y2 (by omega) h2
  · idx_vars x
    have e1 : (y1 : ℕ) = 960 + (x1 : ℕ) := h1
    exact storeLo_at m c t ht 960 slices_S1536x512_o960_0_S64x512 (by omega) (by omega) x0 x1 x2 y1 y2 (by omega) h2
  · idx_vars x
    have e1 : (y1 : ℕ) = 928 + (x1 : ℕ) := h1
    exact storeHi_at m c t ht 896 slices_S1536x512_o896_0_S64x512 (by omega) (by omega) x0 x1 x2 y1 y2 (by omega) h2
  · idx_vars x
    have e1 : (y1 : ℕ) = 896 + (x1 : ℕ) := h1
    exact storeLo_at m c t ht 896 slices_S1536x512_o896_0_S64x512 (by omega) (by omega) x0 x1 x2 y1 y2 (by omega) h2
  · idx_vars x
    have e1 : (y1 : ℕ) = 864 + (x1 : ℕ) := h1
    exact storeHi_at m c t ht 832 slices_S1536x512_o832_0_S64x512 (by omega) (by omega) x0 x1 x2 y1 y2 (by omega) h2
  · idx_vars x
    have e1 : (y1 : ℕ) = 832 + (x1 : ℕ) := h1
    exact storeLo_at m c t ht 832 slices_S1536x512_o832_0_S64x512 (by omega) (by omega) x0 x1 x2 y1 y2 (by omega) h2
  · idx_vars x
    have e1 : (y1 : ℕ) = 800 + (x1 : ℕ) := h1
    exact storeHi_at m c t ht 768 slices_S1536x512_o768_0_S64x512 (by omega) (by omega) x0 x1 x2 y1 y2 (by omega) h2
  · idx_vars x
    have e1 : (y1 : ℕ) = 768 + (x1 : ℕ) := h1
    exact storeLo_at m c t ht 768 slices_S1536x512_o768_0_S64x512 (by omega) (by omega) x0 x1 x2 y1 y2 (by omega) h2
  · idx_vars x
    have e1 : (y1 : ℕ) = 736 + (x1 : ℕ) := h1
    exact storeHi_at m c t ht 704 slices_S1536x512_o704_0_S64x512 (by omega) (by omega) x0 x1 x2 y1 y2 (by omega) h2
  · idx_vars x
    have e1 : (y1 : ℕ) = 704 + (x1 : ℕ) := h1
    exact storeLo_at m c t ht 704 slices_S1536x512_o704_0_S64x512 (by omega) (by omega) x0 x1 x2 y1 y2 (by omega) h2
  · idx_vars x
    have e1 : (y1 : ℕ) = 672 + (x1 : ℕ) := h1
    exact storeHi_at m c t ht 640 slices_S1536x512_o640_0_S64x512 (by omega) (by omega) x0 x1 x2 y1 y2 (by omega) h2
  · idx_vars x
    have e1 : (y1 : ℕ) = 640 + (x1 : ℕ) := h1
    exact storeLo_at m c t ht 640 slices_S1536x512_o640_0_S64x512 (by omega) (by omega) x0 x1 x2 y1 y2 (by omega) h2
  · idx_vars x
    have e1 : (y1 : ℕ) = 608 + (x1 : ℕ) := h1
    exact storeHi_at m c t ht 576 slices_S1536x512_o576_0_S64x512 (by omega) (by omega) x0 x1 x2 y1 y2 (by omega) h2
  · idx_vars x
    have e1 : (y1 : ℕ) = 576 + (x1 : ℕ) := h1
    exact storeLo_at m c t ht 576 slices_S1536x512_o576_0_S64x512 (by omega) (by omega) x0 x1 x2 y1 y2 (by omega) h2
  · idx_vars x
    have e1 : (y1 : ℕ) = 544 + (x1 : ℕ) := h1
    exact storeHi_at m c t ht 512 slices_S1536x512_o512_0_S64x512 (by omega) (by omega) x0 x1 x2 y1 y2 (by omega) h2
  · idx_vars x
    have e1 : (y1 : ℕ) = 512 + (x1 : ℕ) := h1
    exact storeLo_at m c t ht 512 slices_S1536x512_o512_0_S64x512 (by omega) (by omega) x0 x1 x2 y1 y2 (by omega) h2
  · idx_vars x
    have e1 : (y1 : ℕ) = 480 + (x1 : ℕ) := h1
    exact storeHi_at m c t ht 448 slices_S1536x512_o448_0_S64x512 (by omega) (by omega) x0 x1 x2 y1 y2 (by omega) h2
  · idx_vars x
    have e1 : (y1 : ℕ) = 448 + (x1 : ℕ) := h1
    exact storeLo_at m c t ht 448 slices_S1536x512_o448_0_S64x512 (by omega) (by omega) x0 x1 x2 y1 y2 (by omega) h2
  · idx_vars x
    have e1 : (y1 : ℕ) = 416 + (x1 : ℕ) := h1
    exact storeHi_at m c t ht 384 slices_S1536x512_o384_0_S64x512 (by omega) (by omega) x0 x1 x2 y1 y2 (by omega) h2
  · idx_vars x
    have e1 : (y1 : ℕ) = 384 + (x1 : ℕ) := h1
    exact storeLo_at m c t ht 384 slices_S1536x512_o384_0_S64x512 (by omega) (by omega) x0 x1 x2 y1 y2 (by omega) h2
  · idx_vars x
    have e1 : (y1 : ℕ) = 352 + (x1 : ℕ) := h1
    exact storeHi_at m c t ht 320 slices_S1536x512_o320_0_S64x512 (by omega) (by omega) x0 x1 x2 y1 y2 (by omega) h2
  · idx_vars x
    have e1 : (y1 : ℕ) = 320 + (x1 : ℕ) := h1
    exact storeLo_at m c t ht 320 slices_S1536x512_o320_0_S64x512 (by omega) (by omega) x0 x1 x2 y1 y2 (by omega) h2
  · idx_vars x
    have e1 : (y1 : ℕ) = 288 + (x1 : ℕ) := h1
    exact storeHi_at m c t ht 256 slices_S1536x512_o256_0_S64x512 (by omega) (by omega) x0 x1 x2 y1 y2 (by omega) h2
  · idx_vars x
    have e1 : (y1 : ℕ) = 256 + (x1 : ℕ) := h1
    exact storeLo_at m c t ht 256 slices_S1536x512_o256_0_S64x512 (by omega) (by omega) x0 x1 x2 y1 y2 (by omega) h2
  · idx_vars x
    have e1 : (y1 : ℕ) = 224 + (x1 : ℕ) := h1
    exact storeHi_at m c t ht 192 slices_S1536x512_o192_0_S64x512 (by omega) (by omega) x0 x1 x2 y1 y2 (by omega) h2
  · idx_vars x
    have e1 : (y1 : ℕ) = 192 + (x1 : ℕ) := h1
    exact storeLo_at m c t ht 192 slices_S1536x512_o192_0_S64x512 (by omega) (by omega) x0 x1 x2 y1 y2 (by omega) h2
  · idx_vars x
    have e1 : (y1 : ℕ) = 160 + (x1 : ℕ) := h1
    exact storeHi_at m c t ht 128 slices_S1536x512_o128_0_S64x512 (by omega) (by omega) x0 x1 x2 y1 y2 (by omega) h2
  · idx_vars x
    have e1 : (y1 : ℕ) = 128 + (x1 : ℕ) := h1
    exact storeLo_at m c t ht 128 slices_S1536x512_o128_0_S64x512 (by omega) (by omega) x0 x1 x2 y1 y2 (by omega) h2
  · idx_vars x
    have e1 : (y1 : ℕ) = 96 + (x1 : ℕ) := h1
    exact storeHi_at m c t ht 64 slices_S1536x512_o64_0_S64x512 (by omega) (by omega) x0 x1 x2 y1 y2 (by omega) h2
  · idx_vars x
    have e1 : (y1 : ℕ) = 64 + (x1 : ℕ) := h1
    exact storeLo_at m c t ht 64 slices_S1536x512_o64_0_S64x512 (by omega) (by omega) x0 x1 x2 y1 y2 (by omega) h2
  · idx_vars x
    have e1 : (y1 : ℕ) = 32 + (x1 : ℕ) := h1
    exact storeHi_at m c t ht 0 slices_S1536x512_o0_0_S64x512 (by omega) (by omega) x0 x1 x2 y1 y2 (by omega) h2
  · idx_vars x
    have e1 : (y1 : ℕ) = (x1 : ℕ) := h1
    exact storeLo_at m c t ht 0 slices_S1536x512_o0_0_S64x512 (by omega) (by omega) x0 x1 x2 y1 y2 (by omega) h2

set_option maxHeartbeats 2000000 in
/-- The keys a grid point stores, at a block entry. -/
theorem point_keys (c : Dev nD) (t : Fin cfg0.N) (y : S1x512x256.Idx) :
    keysBlock (k0_pay127 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay128 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay129 (F := Ideal) (iblk m c 0 t) (iblk m c 1 t) (iblk m c 2 t) (iblk m c 3 t) (iblk m c 4 t) (iblk m c 5 t) (iblk m c 6 t) (iblk m c 7 t) (iblk m c 8 t) (iblk m c 9 t)) (k0_pay131 (F := Ideal) (iblk m c 0 t) (iblk m c 1 t) (iblk m c 2 t) (iblk m c 3 t) (iblk m c 4 t) (iblk m c 5 t) (iblk m c 6 t) (iblk m c 7 t) (iblk m c 8 t) (iblk m c 9 t)) y
      = keys (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6)) (Host.cos angles) (Host.sin angles) (((cfg0.win 11).blk t).view.emb y) := by
  have ht : t.val < 32 := lt_of_lt_of_eq t.isLt N_0
  idx_vars y
  refine (keysBlock_at _ _ _ _ _ _ _ _ _ _ _ (fun n => z_at m c t ht n y1) (fun e => co_at m c t e y1)
    (fun e => si_at m c t e y1) (fun d => gk_at m c t d y1) y0 y2).trans ?_
  blk_ext [idx t]

/-- The values a grid point stores, at a block entry. -/
theorem point_values (c : Dev nD) (t : Fin cfg0.N) (y : S1x256x512.Idx) :
    k0_pay2 (F := Ideal) (k0_pay127 (F := Ideal) (iblk m c 0 t) (iblk m c 1 t) (iblk m c 2 t) (iblk m c 3 t) (iblk m c 4 t) (iblk m c 5 t) (iblk m c 6 t) (iblk m c 7 t) (iblk m c 8 t) (iblk m c 9 t)) y = values (proj (m ((c : Thread nD τ).loc main_arg0)) (m ((c : Thread nD τ).loc main_arg1)) (m ((c : Thread nD τ).loc main_arg2)) (m ((c : Thread nD τ).loc main_arg3)) (m ((c : Thread nD τ).loc main_arg4))) (((cfg0.win 12).blk t).view.emb y) := by
  have ht : t.val < 32 := lt_of_lt_of_eq t.isLt N_0
  idx_vars y
  refine Eq.trans (b := values (proj (m ((c : Thread nD τ).loc main_arg0)) (m ((c : Thread nD τ).loc main_arg1)) (m ((c : Thread nD τ).loc main_arg2)) (m ((c : Thread nD τ).loc main_arg3)) (m ((c : Thread nD τ).loc main_arg4))) (ix3 ⟨t.val / 4, by omega⟩ y1 ⟨t.val % 4 * 512 + y2.val, by omega⟩)) ?_
    (by blk_ext [idx t])
  pointwise [k0_pay2, values]
  exact z_at m c t ht _ y2

/-- The Fourier channels a grid point stores, at a block entry. -/
theorem point_fourier (c : Dev nD) (t : Fin cfg0.N) (y : S1x512x512.Idx) :
    k0_pay3 (F := Ideal) (k0_pay4 (iblk m c 0 t) (iblk m c 3 t) (iblk m c 1 t) (iblk m c 2 t)) (iblk m c 5 t) y
      = fourier (proj (m ((c : Thread nD τ).loc main_arg0)) (m ((c : Thread nD τ).loc main_arg1)) (m ((c : Thread nD τ).loc main_arg2)) (m ((c : Thread nD τ).loc main_arg3)) (m ((c : Thread nD τ).loc main_arg4))) (((cfg0.win 13).blk t).view.emb y) := by
  have ht : t.val < 32 := lt_of_lt_of_eq t.isLt N_0
  idx_vars y
  refine (fourier_at m c t ht y0 y1 y2).trans ?_
  blk_ext [idx t]

set_option maxHeartbeats 2000000 in
/-- The queries after the run are the reference's. -/
theorem final_queries (c : Dev nD) : (dats m 0 c).arrAt 10 (cfgs 0).N = queries (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Host.cos angles) (Host.sin angles) := by
  refine (dats m 0 c).arrAt_eq_of_covers 10 _ (by decide +kernel) fun t _ y => ?_
  blk_simp
  rw [after0_10]
  exact point_queries m c t y

set_option maxHeartbeats 2000000 in
/-- The keys after the run are the reference's. -/
theorem final_keys (c : Dev nD) : (dats m 0 c).arrAt 11 (cfgs 0).N = keys (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6)) (Host.cos angles) (Host.sin angles) := by
  refine (dats m 0 c).arrAt_eq_of_covers 11 _ (by decide +kernel) fun t _ y => ?_
  blk_simp
  rw [after0_11]
  frame_out
  exact point_keys m c t y

/-- The values after the run are the reference's. -/
theorem final_values (c : Dev nD) : (dats m 0 c).arrAt 12 (cfgs 0).N = values (proj (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 12 _ (by decide +kernel) fun t _ y => ?_
  blk_simp
  rw [after0_12]
  frame_out
  exact point_values m c t y

/-- The Fourier channels after the run are the reference's. -/
theorem final_fourier (c : Dev nD) : (dats m 0 c).arrAt 13 (cfgs 0).N = fourier (proj (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 13 _ (by decide +kernel) fun t _ y => ?_
  blk_simp
  rw [after0_13]
  frame_out
  exact point_fourier m c t y

end Cert.KernelProjIdeal.RefValue

end
-- ==== Proof.ProjClaim.lean ====
/- The value claim of the input projection, assembled: both runs, and the bridges from the four result arrays to the reference's
   terms. -/
module

public import proofs.«01_k».proof.Proof.ProjValue
public import proofs.«01_k».proof.Defs
public import Idealize.ShloMosaic.Lib.Claim

@[expose] public section

set_option maxRecDepth 16384

noncomputable section

open Idealize.ShloMosaic Idealize.ShloMosaic.TcCoe Idealize.SL.Sem

namespace Cert.Proof.Proj

set_option maxHeartbeats 2000000 in
/-- From memories that agree on the arguments both programs end, with equal results. -/
theorem algebraic : Cert.algebraic_KernelProjIdeal_ReferenceProjIdeal := by
  pair_intro
  · run_from Cert.KernelProjIdeal.Gen.run_main m g
  · run_from Cert.ReferenceProjIdeal.Value.run m' g'
    · refine (Cert.KernelProjIdeal.RefValue.queries_eq m' c).trans ?_
      simp only [hagree c]
      exact (Cert.KernelProjIdeal.RefValue.final_queries m c).symm
    · refine (Cert.KernelProjIdeal.RefValue.keys_eq m' c).trans ?_
      simp only [hagree c]
      exact (Cert.KernelProjIdeal.RefValue.final_keys m c).symm
    · exact (Cert.KernelProjIdeal.RefValue.final_values m c).symm
    · exact (Cert.KernelProjIdeal.RefValue.final_fourier m c).symm

end Cert.Proof.Proj

end
-- ==== Proof.CtxValue.lean ====
/- The context call: the blocks a grid point writes are the reference's keys and values at the blocks' places. The
   reference is cut into the projection of the modulated norm, the per-head norm of the keys, and the transposed values, and
   the kernel's payloads (which hold the projection transposed) are compared with them one after the other. -/
module

public import proofs.«01_k».proof.Proof.Gen.KernelCtxIdeal.Frame
public import proofs.«01_k».proof.Proof.Gen.ReferenceCtxIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelCtxIdeal.RefValue

open Cert.KernelCtxIdeal Cert.KernelCtxIdeal.Gen

/-- Stage 1 of the reference: the key and value columns' projection of the modulated norm of the context. -/
def proj (x : FVec Ideal Cert.ReferenceCtxIdeal.S8x256x1024 .f32) (sh sc g : FVec Ideal Cert.ReferenceCtxIdeal.S1x1024 .f32) (w : FVec Ideal Cert.ReferenceCtxIdeal.S1x1024x4096 .f32) :
    FVec Ideal Cert.ReferenceCtxIdeal.S8x256x512 .f32 :=
  Host.dotGeneral Cert.ReferenceCtxIdeal.dot_S8x256x1024_S1024x512_S8x256x512_2_0_01_1_n_n none
    (addf (mulf (mulf (mulf x (broadcastInDim Cert.ReferenceCtxIdeal.S8x256x1024 ![0, 1, 2] Cert.ReferenceCtxIdeal.Gen.bcast_S8x256x1_S8x256x1024_0_1_2
        (Host.rsqrt (addf (Host.divf (broadcastInDim Cert.ReferenceCtxIdeal.S8x256x1 ![0, 1] Cert.ReferenceCtxIdeal.Gen.bcast_S8x256_S8x256x1_0_1
          (Host.reduceAdd (mulf x x) (constant Cert.ReferenceCtxIdeal.S_ .f32 0x00000000#32) Cert.ReferenceCtxIdeal.Gen.reducesTo_S8x256x1024_S8x256_d2 Cert.ReferenceCtxIdeal.Gen.h_S_))
          (broadcastInDim Cert.ReferenceCtxIdeal.S8x256x1 ![] Cert.ReferenceCtxIdeal.Gen.bcast_S_S8x256x1 (constant Cert.ReferenceCtxIdeal.S_ .f32 0x44800000#32)))
          (broadcastInDim Cert.ReferenceCtxIdeal.S8x256x1 ![] Cert.ReferenceCtxIdeal.Gen.bcast_S_S8x256x1 (constant Cert.ReferenceCtxIdeal.S_ .f32 0x358637BD#32))))))
        (broadcastInDim Cert.ReferenceCtxIdeal.S8x256x1024 ![0, 1, 2] Cert.ReferenceCtxIdeal.Gen.bcast_S1x1x1024_S8x256x1024_0_1_2
          (broadcastInDim Cert.ReferenceCtxIdeal.S1x1x1024 ![2] Cert.ReferenceCtxIdeal.Gen.bcast_S1024_S1x1x1024_2 (shapeCast _ g Cert.ReferenceCtxIdeal.Gen.shapeCasts_S1x1024_S1024))))
        (broadcastInDim Cert.ReferenceCtxIdeal.S8x256x1024 ![0, 1, 2] Cert.ReferenceCtxIdeal.Gen.bcast_S1x1x1024_S8x256x1024_0_1_2
          (broadcastInDim Cert.ReferenceCtxIdeal.S1x1x1024 ![1, 2] Cert.ReferenceCtxIdeal.Gen.bcast_S1x1024_S1x1x1024_1_2
            (addf (broadcastInDim Cert.ReferenceCtxIdeal.S1x1024 ![] Cert.ReferenceCtxIdeal.Gen.bcast_S_S1x1024 (constant Cert.ReferenceCtxIdeal.S_ .f32 0x3F800000#32)) sc))))
      (broadcastInDim Cert.ReferenceCtxIdeal.S8x256x1024 ![0, 1, 2] Cert.ReferenceCtxIdeal.Gen.bcast_S1x1x1024_S8x256x1024_0_1_2
        (broadcastInDim Cert.ReferenceCtxIdeal.S1x1x1024 ![1, 2] Cert.ReferenceCtxIdeal.Gen.bcast_S1x1024_S1x1x1024_1_2 sh)))
    (extractStridedSlice Cert.ReferenceCtxIdeal.S1024x512 ![0, 1024] (shapeCast _ w Cert.ReferenceCtxIdeal.Gen.shapeCasts_S1x1024x4096_S1024x4096) Cert.ReferenceCtxIdeal.Gen.slices_S1024x4096_S1024x512_0_1024)

/-- The key columns split into heads. -/
def headed (z : FVec Ideal Cert.ReferenceCtxIdeal.S8x256x512 .f32) : FVec Ideal Cert.ReferenceCtxIdeal.S8x256x4x64 .f32 :=
  shapeCast _ (extractStridedSlice Cert.ReferenceCtxIdeal.S8x256x256 ![0, 0, 0] z Cert.ReferenceCtxIdeal.Gen.slices_S8x256x512_S8x256x256_0_0_0) Cert.ReferenceCtxIdeal.Gen.shapeCasts_S8x256x256_S8x256x4x64

/-- Stage 2 of the reference, the keys: each head's columns divided by their root mean square, times the gain. -/
def keys (z : FVec Ideal Cert.ReferenceCtxIdeal.S8x256x512 .f32) (g : FVec Ideal Cert.ReferenceCtxIdeal.S1x64 .f32) : FVec Ideal Cert.ReferenceCtxIdeal.S8x256x256 .bf16 :=
  truncf .bf16 (shapeCast _ (mulf (mulf (headed z)
      (broadcastInDim Cert.ReferenceCtxIdeal.S8x256x4x64 ![0, 1, 2, 3] Cert.ReferenceCtxIdeal.Gen.bcast_S8x256x4x1_S8x256x4x64_0_1_2_3
        (Host.rsqrt (addf (Host.divf (broadcastInDim Cert.ReferenceCtxIdeal.S8x256x4x1 ![0, 1, 2] Cert.ReferenceCtxIdeal.Gen.bcast_S8x256x4_S8x256x4x1_0_1_2
          (Host.reduceAdd (mulf (headed z) (headed z)) (constant Cert.ReferenceCtxIdeal.S_ .f32 0x00000000#32) Cert.ReferenceCtxIdeal.Gen.reducesTo_S8x256x4x64_S8x256x4_d3 Cert.ReferenceCtxIdeal.Gen.h_S_))
          (broadcastInDim Cert.ReferenceCtxIdeal.S8x256x4x1 ![] Cert.ReferenceCtxIdeal.Gen.bcast_S_S8x256x4x1 (constant Cert.ReferenceCtxIdeal.S_ .f32 0x42800000#32)))
          (broadcastInDim Cert.ReferenceCtxIdeal.S8x256x4x1 ![] Cert.ReferenceCtxIdeal.Gen.bcast_S_S8x256x4x1 (constant Cert.ReferenceCtxIdeal.S_ .f32 0x358637BD#32))))))
      (broadcastInDim Cert.ReferenceCtxIdeal.S8x256x4x64 ![0, 1, 2, 3] Cert.ReferenceCtxIdeal.Gen.bcast_S1x1x1x64_S8x256x4x64_0_1_2_3
        (broadcastInDim Cert.ReferenceCtxIdeal.S1x1x1x64 ![3] Cert.ReferenceCtxIdeal.Gen.bcast_S64_S1x1x1x64_3 (shapeCast _ g Cert.ReferenceCtxIdeal.Gen.shapeCasts_S1x64_S64)))) Cert.ReferenceCtxIdeal.Gen.shapeCasts_S8x256x4x64_S8x256x256)
    Cert.ReferenceCtxIdeal.Gen.bitsLt_bf16_f32

/-- Stage 2 of the reference, the values: the value columns with the positions last. -/
def values (z : FVec Ideal Cert.ReferenceCtxIdeal.S8x256x512 .f32) : FVec Ideal Cert.ReferenceCtxIdeal.S8x256x256 .bf16 :=
  truncf .bf16 (transpose Cert.ReferenceCtxIdeal.S8x256x256 [0, 2, 1]
    (extractStridedSlice Cert.ReferenceCtxIdeal.S8x256x256 ![0, 0, 256] z Cert.ReferenceCtxIdeal.Gen.slices_S8x256x512_S8x256x256_0_0_256) Cert.ReferenceCtxIdeal.Gen.transposes_S8x256x256_S8x256x256_0_2_1)
    Cert.ReferenceCtxIdeal.Gen.bitsLt_bf16_f32

/-- The reference's composed term of the keys is its two stages, one after the other. -/
theorem reference_eq (m : (ℓ : Loc Cert.ReferenceCtxIdeal.nD Cert.ReferenceCtxIdeal.τ Cert.ReferenceCtxIdeal.sig) → Buf (Elt Ideal) ℓ) (c : Dev Cert.ReferenceCtxIdeal.nD) :
    Cert.ReferenceCtxIdeal.Value.res_out0 m c = keys (proj (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3)) (m ((c.tc : Thread Cert.ReferenceCtxIdeal.nD Cert.ReferenceCtxIdeal.τ).loc Cert.ReferenceCtxIdeal.main_arg4))) (m ((c.tc : Thread Cert.ReferenceCtxIdeal.nD Cert.ReferenceCtxIdeal.τ).loc Cert.ReferenceCtxIdeal.main_arg5)) := by
  unfold Cert.ReferenceCtxIdeal.Value.res_out0 Cert.ReferenceCtxIdeal.Value.res_main_v43 keys headed proj
  rfl

variable (m : (ℓ : Loc nD τ sig) → Buf (Elt Ideal) ℓ)

/-- The block every window shows at grid point `t`, decided over the grid. -/
theorem idx : ∀ t : Fin cfg0.N, win0_0.index t = ![t.val, 0, 0] ∧ win0_1.index t = ![0, 0]
    ∧ win0_2.index t = ![0, 0] ∧ win0_3.index t = ![0, 0] ∧ win0_4.index t = ![0, 0]
    ∧ win0_5.index t = ![0, 0] ∧ win0_6.index t = ![t.val, 0, 0] ∧ win0_7.index t = ![t.val, 0, 0] :=
  (by decide +kernel : ∀ t : Fin grid0.N, _)

set_option maxHeartbeats 2000000 in
/-- Stage 1 at a grid point: the kernel's transposed projection of batch row `t` is the reference's. -/
theorem proj_at (c : Dev nD) (t : Fin cfg0.N) (ht : t.val < 8) (n : Fin 512) (r : Fin 256) :
    k0_pay2 (F := Ideal) (iblk m c 0 t) (iblk m c 3 t) (iblk m c 1 t) (iblk m c 2 t) (iblk m c 4 t) (ix2 n r) = proj (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val, ht⟩ r n) := by
  pointwise [k0_pay2, proj]
  blk_point [iblk, V, idx t]

set_option maxHeartbeats 2000000 in
/-- Stage 2 at a grid point, the keys. -/
theorem keys_at (v0 : Vec Ideal S1x256x1024 .f32) (v2 v4 v5 : Vec Ideal S1x1024 .f32) (v25 : Vec Ideal S512x1024 .bf16)
    (v28 : Vec Ideal S64x256 .f32) (Z : FVec Ideal Cert.ReferenceCtxIdeal.S8x256x512 .f32) (G : FVec Ideal Cert.ReferenceCtxIdeal.S1x64 .f32) (b : Fin 8)
    (hZ : ∀ (n : Fin 512) (r : Fin 256), k0_pay2 (F := Ideal) v0 v2 v4 v5 v25 (ix2 n r) = Z (ix3 b r n))
    (hG : ∀ (d : Fin 64) (r : Fin 256), v28 (ix2 d r) = G (ix2 0 d)) (z : Fin 1) (r : Fin 256) (n : Fin 256) :
    k0_pay6 (F := Ideal) (k0_pay2 v0 v2 v4 v5 v25) (k0_pay3 v28) (k0_pay4 v0 v2 v4 v5 v25) (k0_pay5 v0 v2 v4 v5 v25) (ix3 z r n)
      = keys Z G (ix3 b r n) := by
  pointwise [k0_pay6, k0_pay5, k0_pay4, k0_pay3, keys, headed]
  simp only [hZ, hG]
  have hn := n.isLt
  by_cases h1 : (n : ℕ) < 64
  · rw [dif_pos h1]
    simp only [show (n : ℕ) / 64 = 0 by omega, show (n : ℕ) % 64 = n by omega, Nat.zero_mul, Nat.zero_add]
  rw [dif_neg h1]
  by_cases h2 : (n : ℕ) - 64 < 64
  · rw [dif_pos h2]
    simp only [show (n : ℕ) / 64 = 1 by omega, show (n : ℕ) % 64 = n - 64 by omega, show 64 + ((n : ℕ) - 64) = n by omega, Nat.one_mul]
  rw [dif_neg h2]
  by_cases h3 : (n : ℕ) - 64 - 64 < 64
  · rw [dif_pos h3]
    simp only [show (n : ℕ) / 64 = 2 by omega, show (n : ℕ) % 64 = n - 64 - 64 by omega,
      show 128 + ((n : ℕ) - 64 - 64) = n by omega, Nat.reduceMul]
  rw [dif_neg h3]
  simp only [show (n : ℕ) / 64 = 3 by omega, show (n : ℕ) % 64 = n - 64 - 64 - 64 by omega,
    show 192 + ((n : ℕ) - 64 - 64 - 64) = n by omega, Nat.reduceMul]

set_option maxHeartbeats 2000000 in
/-- Stage 2 at a grid point, the values. -/
theorem values_at (v0 : Vec Ideal S1x256x1024 .f32) (v2 v4 v5 : Vec Ideal S1x1024 .f32) (v25 : Vec Ideal S512x1024 .bf16)
    (Z : FVec Ideal Cert.ReferenceCtxIdeal.S8x256x512 .f32) (b : Fin 8)
    (hZ : ∀ (n : Fin 512) (r : Fin 256), k0_pay2 (F := Ideal) v0 v2 v4 v5 v25 (ix2 n r) = Z (ix3 b r n))
    (z : Fin 1) (n : Fin 256) (r : Fin 256) :
    k0_pay1 (F := Ideal) (k0_pay7 (k0_pay2 v0 v2 v4 v5 v25)) (ix3 z n r) = values Z (ix3 b n r) := by
  pointwise [k0_pay1, k0_pay7, values]
  simp only [hZ]

/-- A row of the gain's block is the gain. -/
theorem gain_at (c : Dev nD) (t : Fin cfg0.N) (d : Fin 64) (r : Fin 256) :
    (iblk m c 5 t) (ix2 d r) = ((m ((c : Thread nD τ).loc main_arg5)) : FVec Ideal Cert.ReferenceCtxIdeal.S1x64 .f32) (ix2 0 d) := by
  blk_point [iblk, V, idx t]

/-- What the body stores as keys at block index `y` of point `t` is the reference's result at the array index `y` sits at. -/
theorem point_keys (c : Dev nD) (t : Fin cfg0.N) (y : S1x256x256.Idx) :
    k0_pay6 (F := Ideal) (k0_pay2 (iblk m c 0 t) (iblk m c 3 t) (iblk m c 1 t) (iblk m c 2 t) (iblk m c 4 t)) (k0_pay3 (iblk m c 5 t)) (k0_pay4 (iblk m c 0 t) (iblk m c 3 t) (iblk m c 1 t) (iblk m c 2 t) (iblk m c 4 t)) (k0_pay5 (iblk m c 0 t) (iblk m c 3 t) (iblk m c 1 t) (iblk m c 2 t) (iblk m c 4 t)) y
      = keys (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (((cfg0.win 6).blk t).view.emb y) := by
  have ht : t.val < 8 := lt_of_lt_of_eq t.isLt N_0
  idx_vars y
  refine (keys_at _ _ _ _ _ _ _ _ ⟨t.val, ht⟩ (fun n r => proj_at m c t ht n r) (gain_at m c t) y0 y1 y2).trans ?_
  blk_ext [idx t]

/-- What the body stores as values at block index `y` of point `t` is the reference's result at the array index `y` sits at. -/
theorem point_values (c : Dev nD) (t : Fin cfg0.N) (y : S1x256x256.Idx) :
    k0_pay1 (F := Ideal) (k0_pay7 (k0_pay2 (iblk m c 0 t) (iblk m c 3 t) (iblk m c 1 t) (iblk m c 2 t) (iblk m c 4 t))) y
      = values (proj (m ((c : Thread nD τ).loc main_arg0)) (m ((c : Thread nD τ).loc main_arg1)) (m ((c : Thread nD τ).loc main_arg2)) (m ((c : Thread nD τ).loc main_arg3)) (m ((c : Thread nD τ).loc main_arg4))) (((cfg0.win 7).blk t).view.emb y) := by
  have ht : t.val < 8 := lt_of_lt_of_eq t.isLt N_0
  idx_vars y
  refine (values_at _ _ _ _ _ _ ⟨t.val, ht⟩ (fun n r => proj_at m c t ht n r) y0 y1 y2).trans ?_
  blk_ext [idx t]

/-- The keys after the run are the reference's composed term. -/
theorem final_keys (c : Dev nD) : (dats m 0 c).arrAt 6 (cfgs 0).N = keys (proj (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (dats m 0 c).arrAt_eq_of_covers 6 _ (by decide +kernel) fun t _ y => ?_
  blk_simp
  rw [after0_6]
  unfold out0_6 k0_pay8
  frame_out
  exact point_keys m c t y

/-- The values after the run are the reference's composed term. -/
theorem final_values (c : Dev nD) : (dats m 0 c).arrAt 7 (cfgs 0).N = values (proj (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  blk_simp
  rw [after0_7]
  unfold out0_7 k0_pay8
  frame_out
  exact point_values m c t y

end Cert.KernelCtxIdeal.RefValue

end
-- ==== Proof.CtxClaim.lean ====
/- The value claim of the context call, assembled: both runs, and the bridges from the two result arrays to the reference's
   terms. -/
module

public import proofs.«01_k».proof.Proof.CtxValue
public import proofs.«01_k».proof.Defs
public import Idealize.ShloMosaic.Lib.Claim

@[expose] public section

set_option maxRecDepth 16384

noncomputable section

open Idealize.ShloMosaic Idealize.ShloMosaic.TcCoe Idealize.SL.Sem

namespace Cert.Proof.Ctx

set_option maxHeartbeats 2000000 in
/-- From memories that agree on the arguments both programs end, with equal results. -/
theorem algebraic : Cert.algebraic_KernelCtxIdeal_ReferenceCtxIdeal := by
  pair_intro
  · run_from Cert.KernelCtxIdeal.Gen.run_main m g
  · run_from Cert.ReferenceCtxIdeal.Value.run m' g'
    · refine (Cert.KernelCtxIdeal.RefValue.reference_eq m' c).trans ?_
      simp only [hagree c]
      exact (Cert.KernelCtxIdeal.RefValue.final_keys m c).symm
    · exact (Cert.KernelCtxIdeal.RefValue.final_values m c).symm

end Cert.Proof.Ctx

end
-- ==== Proof.AdalnValue.lean ====
/- The modulation call: the block of columns a grid point writes is the reference's modulation vectors at the block's place. -/
module

public import proofs.«01_k».proof.Proof.Gen.KernelAdalnIdeal.Frame
public import proofs.«01_k».proof.Proof.Gen.ReferenceAdalnIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdalnIdeal.RefValue

open Cert.KernelAdalnIdeal Cert.KernelAdalnIdeal.Gen

/-- The reference: the conditioning rows through SiLU, times the weights, plus the offsets. -/
def mods (x : FVec Ideal Cert.ReferenceAdalnIdeal.S16x1024 .f32) (w : FVec Ideal Cert.ReferenceAdalnIdeal.S1x1024x6144 .f32) (b : FVec Ideal Cert.ReferenceAdalnIdeal.S1x6144 .f32) :
    FVec Ideal Cert.ReferenceAdalnIdeal.S16x6144 .f32 :=
  addf (Host.dotGeneral Cert.ReferenceAdalnIdeal.dot_S16x1024_S1024x6144_S16x6144_1_0_0_1_n_n none
      (mulf x (Host.divf (broadcastInDim Cert.ReferenceAdalnIdeal.S16x1024 ![] Cert.ReferenceAdalnIdeal.Gen.bcast_S_S16x1024 (constant Cert.ReferenceAdalnIdeal.S_ .f32 0x3F800000#32))
        (addf (broadcastInDim Cert.ReferenceAdalnIdeal.S16x1024 ![] Cert.ReferenceAdalnIdeal.Gen.bcast_S_S16x1024 (constant Cert.ReferenceAdalnIdeal.S_ .f32 0x3F800000#32)) (Host.exp (Host.negf x)))))
      (shapeCast _ w Cert.ReferenceAdalnIdeal.Gen.shapeCasts_S1x1024x6144_S1024x6144))
    (broadcastInDim Cert.ReferenceAdalnIdeal.S16x6144 ![0, 1] Cert.ReferenceAdalnIdeal.Gen.bcast_S1x6144_S16x6144_0_1
      (broadcastInDim Cert.ReferenceAdalnIdeal.S1x6144 ![1] Cert.ReferenceAdalnIdeal.Gen.bcast_S6144_S1x6144_1 (shapeCast _ b Cert.ReferenceAdalnIdeal.Gen.shapeCasts_S1x6144_S6144)))

variable (m : (ℓ : Loc nD τ sig) → Buf (Elt Ideal) ℓ)

/-- The block every window shows at grid point `t`, decided over the grid. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

set_option maxHeartbeats 2000000 in
/-- At a grid point, column `n` of its block is the reference's column `1536 t + n`. -/
theorem mods_at (c : Dev nD) (t : Fin cfg0.N) (ht : t.val < 4) (r : Fin 16) (n : Fin 1536) :
    k0_pay1 (F := Ideal) (iblk m c 0 t) (iblk m c 1 t) (iblk m c 2 t) (ix2 r n)
      = mods (m ((c : Thread nD τ).loc main_arg0)) (m ((c : Thread nD τ).loc main_arg1)) (m ((c : Thread nD τ).loc main_arg2)) (ix2 r ⟨t.val * 1536 + n.val, by have := n.isLt; omega⟩) := by
  pointwise [k0_pay1, mods]
  simp only [zero_sub]
  blk_point [iblk, V, idx t]

/-- What the body stores at block index `y` of point `t` is the reference's result at the array index `y` sits at. -/
theorem point (c : Dev nD) (t : Fin cfg0.N) (y : S16x1536.Idx) :
    k0_pay1 (F := Ideal) (iblk m c 0 t) (iblk m c 1 t) (iblk m c 2 t) y = mods (m ((c : Thread nD τ).loc main_arg0)) (m ((c : Thread nD τ).loc main_arg1)) (m ((c : Thread nD τ).loc main_arg2)) (((cfg0.win 3).blk t).view.emb y) := by
  have ht : t.val < 4 := lt_of_lt_of_eq t.isLt N_0
  idx_vars y
  refine (mods_at m c t ht y0 y1).trans ?_
  blk_ext [idx t]

/-- The result after the run is the reference's composed term. -/
theorem final (c : Dev nD) : (dats m 0 c).arrAt 3 (cfgs 0).N = mods (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.KernelAdalnIdeal.RefValue

end
-- ==== Proof.AdalnClaim.lean ====
/- The value claim of the modulation call, assembled: both runs, and the bridge from the result array to the reference's term. -/
module

public import proofs.«01_k».proof.Proof.AdalnValue
public import proofs.«01_k».proof.Defs
public import Idealize.ShloMosaic.Lib.Claim

@[expose] public section

set_option maxRecDepth 16384

noncomputable section

open Idealize.ShloMosaic Idealize.ShloMosaic.TcCoe Idealize.SL.Sem

namespace Cert.Proof.Adaln

set_option maxHeartbeats 2000000 in
/-- From memories that agree on the arguments both programs end, with equal results. -/
theorem algebraic : Cert.algebraic_KernelAdalnIdeal_ReferenceAdalnIdeal := by
  pair_intro
  · run_from Cert.KernelAdalnIdeal.Gen.run_main m g
  · run_from Cert.ReferenceAdalnIdeal.Value.run m' g'
    exact (Cert.KernelAdalnIdeal.RefValue.final m c).symm

end Cert.Proof.Adaln

end
-- ==== Proof.FourierTables.lean ====
/- The Fourier mixing call: the blocks a grid point writes are the reference's mixed positions at the blocks' places. The
   reference is cut into its tables of angles, the transform along the channels (real and imaginary part) and the transform
   along the positions; the kernel keeps the channels' transform of a batch row in its scratch over the row's four points. -/
module

public import proofs.«01_k».proof.Proof.Gen.KernelFourierIdeal.Frame
public import proofs.«01_k».proof.Proof.Gen.ReferenceFourierIdeal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelFourierIdeal.RefValue

open Cert.KernelFourierIdeal Cert.KernelFourierIdeal.Gen

/-- The products of two channel numbers. -/
def prodC : IVec Cert.ReferenceFourierIdeal.S128x128 32 :=
  muli (broadcastInDim Cert.ReferenceFourierIdeal.S128x128 ![0, 1] Cert.ReferenceFourierIdeal.Gen.bcast_S128x1_S128x128_0_1 (broadcastInDim Cert.ReferenceFourierIdeal.S128x1 ![0] Cert.ReferenceFourierIdeal.Gen.bcast_S128_S128x1_0 (iotaInDim Cert.ReferenceFourierIdeal.S128 32 0))) (broadcastInDim Cert.ReferenceFourierIdeal.S128x128 ![0, 1] Cert.ReferenceFourierIdeal.Gen.bcast_S1x128_S128x128_0_1 (broadcastInDim Cert.ReferenceFourierIdeal.S1x128 ![1] Cert.ReferenceFourierIdeal.Gen.bcast_S128_S1x128_1 (iotaInDim Cert.ReferenceFourierIdeal.S128 32 0)))

/-- Those products modulo the number of channels of a group. -/
def remC (jk : IVec Cert.ReferenceFourierIdeal.S128x128 32) : IVec Cert.ReferenceFourierIdeal.S128x128 32 :=
  select (andi (cmpi .ne (cmpi .slt (Host.remsi jk (broadcastInDim Cert.ReferenceFourierIdeal.S128x128 ![] Cert.ReferenceFourierIdeal.Gen.bcast_S_S128x128 (select (cmpi .eq (id (constantI Cert.ReferenceFourierIdeal.S_ 32 128#32)) (constantI Cert.ReferenceFourierIdeal.S_ 32 0#32)) (constantI Cert.ReferenceFourierIdeal.S_ 32 1#32) (id (constantI Cert.ReferenceFourierIdeal.S_ 32 128#32))))) (broadcastInDim Cert.ReferenceFourierIdeal.S128x128 ![] Cert.ReferenceFourierIdeal.Gen.bcast_S_S128x128 (constantI Cert.ReferenceFourierIdeal.S_ 32 0#32))) (broadcastInDim Cert.ReferenceFourierIdeal.S128x128 ![] Cert.ReferenceFourierIdeal.Gen.bcast_S_S128x128 (cmpi .slt (select (cmpi .eq (id (constantI Cert.ReferenceFourierIdeal.S_ 32 128#32)) (constantI Cert.ReferenceFourierIdeal.S_ 32 0#32)) (constantI Cert.ReferenceFourierIdeal.S_ 32 1#32) (id (constantI Cert.ReferenceFourierIdeal.S_ 32 128#32))) (constantI Cert.ReferenceFourierIdeal.S_ 32 0#32)))) (cmpi .ne (Host.remsi jk (broadcastInDim Cert.ReferenceFourierIdeal.S128x128 ![] Cert.ReferenceFourierIdeal.Gen.bcast_S_S128x128 (select (cmpi .eq (id (constantI Cert.ReferenceFourierIdeal.S_ 32 128#32)) (constantI Cert.ReferenceFourierIdeal.S_ 32 0#32)) (constantI Cert.ReferenceFourierIdeal.S_ 32 1#32) (id (constantI Cert.ReferenceFourierIdeal.S_ 32 128#32))))) (broadcastInDim Cert.ReferenceFourierIdeal.S128x128 ![] Cert.ReferenceFourierIdeal.Gen.bcast_S_S128x128 (constantI Cert.ReferenceFourierIdeal.S_ 32 0#32)))) (addi (Host.remsi jk (broadcastInDim Cert.ReferenceFourierIdeal.S128x128 ![] Cert.ReferenceFourierIdeal.Gen.bcast_S_S128x128 (select (cmpi .eq (id (constantI Cert.ReferenceFourierIdeal.S_ 32 128#32)) (constantI Cert.ReferenceFourierIdeal.S_ 32 0#32)) (constantI Cert.ReferenceFourierIdeal.S_ 32 1#32) (id (constantI Cert.ReferenceFourierIdeal.S_ 32 128#32))))) (broadcastInDim Cert.ReferenceFourierIdeal.S128x128 ![] Cert.ReferenceFourierIdeal.Gen.bcast_S_S128x128 (select (cmpi .eq (id (constantI Cert.ReferenceFourierIdeal.S_ 32 128#32)) (constantI Cert.ReferenceFourierIdeal.S_ 32 0#32)) (constantI Cert.ReferenceFourierIdeal.S_ 32 1#32) (id (constantI Cert.ReferenceFourierIdeal.S_ 32 128#32))))) (Host.remsi jk (broadcastInDim Cert.ReferenceFourierIdeal.S128x128 ![] Cert.ReferenceFourierIdeal.Gen.bcast_S_S128x128 (select (cmpi .eq (id (constantI Cert.ReferenceFourierIdeal.S_ 32 128#32)) (constantI Cert.ReferenceFourierIdeal.S_ 32 0#32)) (constantI Cert.ReferenceFourierIdeal.S_ 32 1#32) (id (constantI Cert.ReferenceFourierIdeal.S_ 32 128#32)))))

/-- The channels' table of angles: the full turn times the reduced product, over the number of channels. -/
def turnC : FVec Ideal Cert.ReferenceFourierIdeal.S128x128 .f32 :=
  Host.divf (mulf (broadcastInDim Cert.ReferenceFourierIdeal.S128x128 ![] Cert.ReferenceFourierIdeal.Gen.bcast_S_S128x128 (constant Cert.ReferenceFourierIdeal.S_ .f32 0x40C90FDB#32)) (sitofp .f32 (remC prodC))) (broadcastInDim Cert.ReferenceFourierIdeal.S128x128 ![] Cert.ReferenceFourierIdeal.Gen.bcast_S_S128x128 (constant Cert.ReferenceFourierIdeal.S_ .f32 0x43000000#32))

/-- The products of two position numbers. -/
def prodP : IVec Cert.ReferenceFourierIdeal.S2048x2048 32 :=
  muli (broadcastInDim Cert.ReferenceFourierIdeal.S2048x2048 ![0, 1] Cert.ReferenceFourierIdeal.Gen.bcast_S2048x1_S2048x2048_0_1 (broadcastInDim Cert.ReferenceFourierIdeal.S2048x1 ![0] Cert.ReferenceFourierIdeal.Gen.bcast_S2048_S2048x1_0 (iotaInDim Cert.ReferenceFourierIdeal.S2048 32 0))) (broadcastInDim Cert.ReferenceFourierIdeal.S2048x2048 ![0, 1] Cert.ReferenceFourierIdeal.Gen.bcast_S1x2048_S2048x2048_0_1 (broadcastInDim Cert.ReferenceFourierIdeal.S1x2048 ![1] Cert.ReferenceFourierIdeal.Gen.bcast_S2048_S1x2048_1 (iotaInDim Cert.ReferenceFourierIdeal.S2048 32 0)))

/-- Those products modulo the number of positions. -/
def remP (jk : IVec Cert.ReferenceFourierIdeal.S2048x2048 32) : IVec Cert.ReferenceFourierIdeal.S2048x2048 32 :=
  select (andi (cmpi .ne (cmpi .slt (Host.remsi jk (broadcastInDim Cert.ReferenceFourierIdeal.S2048x2048 ![] Cert.ReferenceFourierIdeal.Gen.bcast_S_S2048x2048 (select (cmpi .eq (id (constantI Cert.ReferenceFourierIdeal.S_ 32 2048#32)) (constantI Cert.ReferenceFourierIdeal.S_ 32 0#32)) (constantI Cert.ReferenceFourierIdeal.S_ 32 1#32) (id (constantI Cert.ReferenceFourierIdeal.S_ 32 2048#32))))) (broadcastInDim Cert.ReferenceFourierIdeal.S2048x2048 ![] Cert.ReferenceFourierIdeal.Gen.bcast_S_S2048x2048 (constantI Cert.ReferenceFourierIdeal.S_ 32 0#32))) (broadcastInDim Cert.ReferenceFourierIdeal.S2048x2048 ![] Cert.ReferenceFourierIdeal.Gen.bcast_S_S2048x2048 (cmpi .slt (select (cmpi .eq (id (constantI Cert.ReferenceFourierIdeal.S_ 32 2048#32)) (constantI Cert.ReferenceFourierIdeal.S_ 32 0#32)) (constantI Cert.ReferenceFourierIdeal.S_ 32 1#32) (id (constantI Cert.ReferenceFourierIdeal.S_ 32 2048#32))) (constantI Cert.ReferenceFourierIdeal.S_ 32 0#32)))) (cmpi .ne (Host.remsi jk (broadcastInDim Cert.ReferenceFourierIdeal.S2048x2048 ![] Cert.ReferenceFourierIdeal.Gen.bcast_S_S2048x2048 (select (cmpi .eq (id (constantI Cert.ReferenceFourierIdeal.S_ 32 2048#32)) (constantI Cert.ReferenceFourierIdeal.S_ 32 0#32)) (constantI Cert.ReferenceFourierIdeal.S_ 32 1#32) (id (constantI Cert.ReferenceFourierIdeal.S_ 32 2048#32))))) (broadcastInDim Cert.ReferenceFourierIdeal.S2048x2048 ![] Cert.ReferenceFourierIdeal.Gen.bcast_S_S2048x2048 (constantI Cert.ReferenceFourierIdeal.S_ 32 0#32)))) (addi (Host.remsi jk (broadcastInDim Cert.ReferenceFourierIdeal.S2048x2048 ![] Cert.ReferenceFourierIdeal.Gen.bcast_S_S2048x2048 (select (cmpi .eq (id (constantI Cert.ReferenceFourierIdeal.S_ 32 2048#32)) (constantI Cert.ReferenceFourierIdeal.S_ 32 0#32)) (constantI Cert.ReferenceFourierIdeal.S_ 32 1#32) (id (constantI Cert.ReferenceFourierIdeal.S_ 32 2048#32))))) (broadcastInDim Cert.ReferenceFourierIdeal.S2048x2048 ![] Cert.ReferenceFourierIdeal.Gen.bcast_S_S2048x2048 (select (cmpi .eq (id (constantI Cert.ReferenceFourierIdeal.S_ 32 2048#32)) (constantI Cert.ReferenceFourierIdeal.S_ 32 0#32)) (constantI Cert.ReferenceFourierIdeal.S_ 32 1#32) (id (constantI Cert.ReferenceFourierIdeal.S_ 32 2048#32))))) (Host.remsi jk (broadcastInDim Cert.ReferenceFourierIdeal.S2048x2048 ![] Cert.ReferenceFourierIdeal.Gen.bcast_S_S2048x2048 (select (cmpi .eq (id (constantI Cert.ReferenceFourierIdeal.S_ 32 2048#32)) (constantI Cert.ReferenceFourierIdeal.S_ 32 0#32)) (constantI Cert.ReferenceFourierIdeal.S_ 32 1#32) (id (constantI Cert.ReferenceFourierIdeal.S_ 32 2048#32)))))

/-- The positions' table of angles. -/
def turnP : FVec Ideal Cert.ReferenceFourierIdeal.S2048x2048 .f32 :=
  Host.divf (mulf (broadcastInDim Cert.ReferenceFourierIdeal.S2048x2048 ![] Cert.ReferenceFourierIdeal.Gen.bcast_S_S2048x2048 (constant Cert.ReferenceFourierIdeal.S_ .f32 0x40C90FDB#32)) (sitofp .f32 (remP prodP))) (broadcastInDim Cert.ReferenceFourierIdeal.S2048x2048 ![] Cert.ReferenceFourierIdeal.Gen.bcast_S_S2048x2048 (constant Cert.ReferenceFourierIdeal.S_ .f32 0x45000000#32))

/-- The transform along the channels of each group against a table `tab` (the cosines: its real part; the sines: its negated imaginary part). -/
def along (f : FVec Ideal Cert.ReferenceFourierIdeal.S8x2048x512 .bf16) (tab : FVec Ideal Cert.ReferenceFourierIdeal.S128x128 .f32) : FVec Ideal Cert.ReferenceFourierIdeal.S8x2048x4x128 .f32 :=
  Host.dotGeneral Cert.ReferenceFourierIdeal.dot_S8x2048x4x128_S128x128_S8x2048x4x128_3_0_012_1_n_n none (extf .f32 (shapeCast _ f Cert.ReferenceFourierIdeal.Gen.shapeCasts_S8x2048x512_S8x2048x4x128) Cert.ReferenceFourierIdeal.Gen.bitsLt_bf16_f32) tab

/-- The real part of the transform along the positions, scaled, the groups side by side. -/
def mixed (re im : FVec Ideal Cert.ReferenceFourierIdeal.S8x2048x4x128 .f32) (cosP sinP : FVec Ideal Cert.ReferenceFourierIdeal.S2048x2048 .f32) : FVec Ideal Cert.ReferenceFourierIdeal.S8x2048x512 .bf16 :=
  truncf .bf16 (shapeCast _ (Host.divf (addf (transpose Cert.ReferenceFourierIdeal.S8x2048x4x128 [0, 3, 1, 2] (Host.dotGeneral Cert.ReferenceFourierIdeal.dot_S8x2048x4x128_S2048x2048_S8x4x128x2048_1_1_023_0_n_n none re cosP) Cert.ReferenceFourierIdeal.Gen.transposes_S8x4x128x2048_S8x2048x4x128_0_3_1_2) (transpose Cert.ReferenceFourierIdeal.S8x2048x4x128 [0, 3, 1, 2] (Host.dotGeneral Cert.ReferenceFourierIdeal.dot_S8x2048x4x128_S2048x2048_S8x4x128x2048_1_1_023_0_n_n none (Host.negf im) sinP) Cert.ReferenceFourierIdeal.Gen.transposes_S8x4x128x2048_S8x2048x4x128_0_3_1_2)) (broadcastInDim Cert.ReferenceFourierIdeal.S8x2048x4x128 ![] Cert.ReferenceFourierIdeal.Gen.bcast_S_S8x2048x4x128 (constant Cert.ReferenceFourierIdeal.S_ .f32 0x44000000#32))) Cert.ReferenceFourierIdeal.Gen.shapeCasts_S8x2048x4x128_S8x2048x512) Cert.ReferenceFourierIdeal.Gen.bitsLt_bf16_f32

/-- The reference's result as a function of its argument. -/
def fourier (f : FVec Ideal Cert.ReferenceFourierIdeal.S8x2048x512 .bf16) : FVec Ideal Cert.ReferenceFourierIdeal.S8x2048x512 .bf16 :=
  mixed (along f (Host.cos turnC)) (along f (Host.sin turnC)) (Host.cos turnP) (Host.sin turnP)

/-- The reference's composed term is its stages, one after the other. -/
theorem reference_eq (m : (ℓ : Loc Cert.ReferenceFourierIdeal.nD Cert.ReferenceFourierIdeal.τ Cert.ReferenceFourierIdeal.sig) → Buf (Elt Ideal) ℓ) (c : Dev Cert.ReferenceFourierIdeal.nD) :
    Cert.ReferenceFourierIdeal.Value.res_out0 m c = fourier (m ((c.tc : Thread Cert.ReferenceFourierIdeal.nD Cert.ReferenceFourierIdeal.τ).loc Cert.ReferenceFourierIdeal.main_arg0)) := by
  unfold Cert.ReferenceFourierIdeal.Value.res_out0 Cert.ReferenceFourierIdeal.Value.res_main_v41 fourier mixed along turnC turnP remC remP prodC prodP
  rfl

variable (m : (ℓ : Loc nD τ sig) → Buf (Elt Ideal) ℓ)

/-- The block every window shows at grid point `t`, decided over the grid. -/
theorem idx : ∀ t : Fin cfg0.N, win0_0.index t = ![t.val / 4, 0, 0] ∧ win0_1.index t = ![0, 0]
    ∧ win0_2.index t = ![t.val % 4, 0] ∧ win0_3.index t = ![t.val / 4, t.val % 4, 0] :=
  (by decide +kernel : ∀ t : Fin grid0.N, _)

/-- The channels' table: the cosines and, right of them, the sines of the angles. -/
def tableC : FVec Ideal S128x256 .bf16 :=
  truncf .bf16 (concatenate S128x256 1 [⟨S128x128, Host.cos turnC⟩, ⟨S128x128, Host.sin turnC⟩] concatenates_S128x128_S128x128_S128x256_d1) bitsLt_bf16_f32

/-- The positions' table: the cosines and, right of them, the negated sines of the angles. -/
def tableP : FVec Ideal S2048x4096 .bf16 :=
  truncf .bf16 (concatenate S2048x4096 1 [⟨S2048x2048, Host.cos turnP⟩, ⟨S2048x2048, Host.negf (Host.sin turnP)⟩]
    concatenates_S2048x2048_S2048x2048_S2048x4096_d1) bitsLt_bf16_f32

set_option maxHeartbeats 400000 in
/-- The region finds the channels' table of the reference's angles. -/
theorem chan_table (c : Dev nD) : V m c main_v31 = tableC := by
  unfold V
  after_reads_simp
  unfold tableC turnC remC prodC
  rfl

set_option maxHeartbeats 400000 in
/-- The region finds the positions' table of the reference's angles. -/
theorem pos_table (c : Dev nD) : V m c main_v32 = tableP := by
  unfold V
  after_reads_simp
  unfold tableP turnP remP prodP
  rfl

end Cert.KernelFourierIdeal.RefValue

end
-- ==== Proof.FourierValue.lean ====
/- The Fourier mixing call: the blocks a grid point writes are the reference's mixed positions at the blocks' places. The
   kernel transforms the channels of a batch row at the row's first point, keeps the real and the negated imaginary parts one
   above the other in its scratch, and contracts them with the positions' table at every point of the row. -/
module

public import proofs.«01_k».proof.Proof.Gen.KernelFourierIdeal.Frame
public import proofs.«01_k».proof.Proof.Gen.ReferenceFourierIdeal.Run
public import Idealize.ShloMosaic.Lib.Pipeline.ValueKit
public import Idealize.ShloMosaic.Lib.Pointwise
public import Idealize.ShloMosaic.Lib.Claim
public import proofs.«01_k».proof.Proof.FourierTables
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelFourierIdeal.RefValue

open Cert.KernelFourierIdeal Cert.KernelFourierIdeal.Gen

variable (m : (ℓ : Loc nD τ sig) → Buf (Elt Ideal) ℓ)

set_option maxHeartbeats 1000000 in
/-- The left half of the channels' table holds the cosines. -/
theorem chan_cos (c : Dev nD) (t : Fin cfg0.N) (k n : Fin 128) :
    (iblk m c 1 t : Vec Ideal S128x256 .bf16) (ix2 k ⟨n, by omega⟩) = Ideal.cos (turnC (ix2 k n)) := by
  refine Eq.trans (b := tableC (ix2 k ⟨n, by omega⟩)) ?_ ?_
  · blk_simp [iblk, idx t]
    rw [chan_table]
    refine congrArg tableC ?_
    blk_ext [idx t]
  · pointwise [tableC]

set_option maxHeartbeats 1000000 in
/-- Its right half holds the sines. -/
theorem chan_sin (c : Dev nD) (t : Fin cfg0.N) (k n : Fin 128) :
    (iblk m c 1 t : Vec Ideal S128x256 .bf16) (ix2 k ⟨128 + n, by omega⟩) = Ideal.sin (turnC (ix2 k n)) := by
  refine Eq.trans (b := tableC (ix2 k ⟨128 + n, by omega⟩)) ?_ ?_
  · blk_simp [iblk, idx t]
    rw [chan_table]
    refine congrArg tableC ?_
    blk_ext [idx t]
  · pointwise [tableC]

set_option maxHeartbeats 1000000 in
/-- A point's rows of the positions' table: the left half holds the cosines. -/
theorem pos_cos (c : Dev nD) (t : Fin cfg0.N) (r : Fin 512) (j : Fin 2048) :
    (iblk m c 2 t : Vec Ideal S512x4096 .bf16) (ix2 r ⟨j, by omega⟩) = Ideal.cos (turnP (ix2 ⟨t.val % 4 * 512 + r.val, by omega⟩ j)) := by
  refine Eq.trans (b := tableP (ix2 ⟨t.val % 4 * 512 + r.val, by omega⟩ ⟨j, by omega⟩)) ?_ ?_
  · blk_simp [iblk, idx t]
    rw [pos_table]
    refine congrArg tableP ?_
    blk_ext [idx t]
  · pointwise [tableP]

set_option maxHeartbeats 1000000 in
/-- The right half holds the negated sines. -/
theorem pos_sin (c : Dev nD) (t : Fin cfg0.N) (r : Fin 512) (j : Fin 2048) :
    (iblk m c 2 t : Vec Ideal S512x4096 .bf16) (ix2 r ⟨2048 + j, by omega⟩) = -Ideal.sin (turnP (ix2 ⟨t.val % 4 * 512 + r.val, by omega⟩ j)) := by
  refine Eq.trans (b := tableP (ix2 ⟨t.val % 4 * 512 + r.val, by omega⟩ ⟨2048 + j, by omega⟩)) ?_ ?_
  · blk_simp [iblk, idx t]
    rw [pos_table]
    refine congrArg tableP ?_
    blk_ext [idx t]
  · pointwise [tableP]

set_option maxHeartbeats 1000000 in
/-- The tile stored above is the reference's transform of its group's channels against the cosines. -/
theorem store_left (v : Vec Ideal S1x2048x128 .bf16) (w : Vec Ideal S128x256 .bf16) (f : FVec Ideal Cert.ReferenceFourierIdeal.S8x2048x512 .bf16)
    (T : FVec Ideal Cert.ReferenceFourierIdeal.S128x128 .f32) (b : Fin 8) (g : Fin 4)
    (hv : ∀ (r : Fin 2048) (k : Fin 128), v (ix3 0 r k) = f (ix3 b r ⟨g.val * 128 + k.val, by omega⟩))
    (hw : ∀ k n : Fin 128, w (ix2 k ⟨n, by omega⟩) = T (ix2 k n)) (r : Fin 2048) (n : Fin 128) :
    k0_pay9 (F := Ideal) v w (ix2 r n) = along f T (ix4 b r g n) := by
  pointwise [k0_pay9, k0_pay8, along]
  simp only [hv, hw]

set_option maxHeartbeats 1000000 in
/-- The tile stored below likewise, against the table's right half. -/
theorem store_right (v : Vec Ideal S1x2048x128 .bf16) (w : Vec Ideal S128x256 .bf16) (f : FVec Ideal Cert.ReferenceFourierIdeal.S8x2048x512 .bf16)
    (T : FVec Ideal Cert.ReferenceFourierIdeal.S128x128 .f32) (b : Fin 8) (g : Fin 4)
    (hv : ∀ (r : Fin 2048) (k : Fin 128), v (ix3 0 r k) = f (ix3 b r ⟨g.val * 128 + k.val, by omega⟩))
    (hw : ∀ k n : Fin 128, w (ix2 k ⟨128 + n, by omega⟩) = T (ix2 k n)) (r : Fin 2048) (n : Fin 128) :
    k0_pay10 (F := Ideal) v w (ix2 r n) = along f T (ix4 b r g n) := by
  pointwise [k0_pay10, k0_pay8, along]
  simp only [hv, hw]

/-- What the scratch holds for batch row `b`: the real parts and, below them, the negated imaginary parts. -/
def held (f : FVec Ideal Cert.ReferenceFourierIdeal.S8x2048x512 .bf16) (b : Fin 8) : Vec Ideal S4096x512 .bf16 := fun i =>
  if h : (i 0).val < 2048 then along f (Host.cos turnC) (ix4 b ⟨(i 0).val, h⟩ ⟨(i 1).val / 128, by have : (i 1).val < 512 := (i 1).isLt; omega⟩ ⟨(i 1).val % 128, by omega⟩)
  else along f (Host.sin turnC) (ix4 b ⟨(i 0).val - 2048, by have : (i 0).val < 4096 := (i 0).isLt; omega⟩ ⟨(i 1).val / 128, by have : (i 1).val < 512 := (i 1).isLt; omega⟩ ⟨(i 1).val % 128, by omega⟩)

/-- An entry of the upper half, by its row and its channel within its group. -/
theorem held_upper (f : FVec Ideal Cert.ReferenceFourierIdeal.S8x2048x512 .bf16) (b : Fin 8) (i : S4096x512.Idx) (r : Fin 2048) (g : Fin 4) (n : Fin 128)
    (h0 : (i 0).val = r.val) (h1 : (i 1).val = g.val * 128 + n.val) : held f b i = along f (Host.cos turnC) (ix4 b r g n) := by
  have hr := r.isLt
  have hn := n.isLt
  unfold held
  rw [dif_pos (by omega)]
  refine congrArg (along f (Host.cos turnC)) ?_
  congr 1 <;> apply Fin.ext <;> simp only [h0, h1] <;> omega

/-- An entry of the lower half. -/
theorem held_lower (f : FVec Ideal Cert.ReferenceFourierIdeal.S8x2048x512 .bf16) (b : Fin 8) (i : S4096x512.Idx) (r : Fin 2048) (g : Fin 4) (n : Fin 128)
    (h0 : (i 0).val = 2048 + r.val) (h1 : (i 1).val = g.val * 128 + n.val) : held f b i = along f (Host.sin turnC) (ix4 b r g n) := by
  have hr := r.isLt
  have hn := n.isLt
  unfold held
  rw [dif_neg (by omega)]
  refine congrArg (along f (Host.sin turnC)) ?_
  congr 1 <;> apply Fin.ext <;> simp only [h0, h1] <;> omega

/-- The channels of group 0 that a point loads are the reference's channels 0 to 127 of its batch row. -/
theorem load_0 (c : Dev nD) (t : Fin cfg0.N) (ht : t.val < 32) (r : Fin 2048) (k : Fin 128) :
    (View.ld (iblk m c 0 t) (Rect.unit ![0, 0, 0] ![1, 2048, 128] inb_S1x2048x512_S1x2048x128_0_0_0) : Vec Ideal S1x2048x128 .bf16) (ix3 0 r k)
      = m ((c : Thread nD τ).loc main_arg0) (ix3 ⟨t.val / 4, by omega⟩ r ⟨0 * 128 + k.val, by omega⟩) := by
  pointwise
  blk_ext [iblk, V, idx t]

/-- The channels of group 1 that a point loads are the reference's channels 128 to 255 of its batch row. -/
theorem load_1 (c : Dev nD) (t : Fin cfg0.N) (ht : t.val < 32) (r : Fin 2048) (k : Fin 128) :
    (View.ld (iblk m c 0 t) (Rect.unit ![0, 0, 128] ![1, 2048, 128] inb_S1x2048x512_S1x2048x128_0_0_128) : Vec Ideal S1x2048x128 .bf16) (ix3 0 r k)
      = m ((c : Thread nD τ).loc main_arg0) (ix3 ⟨t.val / 4, by omega⟩ r ⟨1 * 128 + k.val, by omega⟩) := by
  pointwise
  blk_ext [iblk, V, idx t]

/-- The channels of group 2 that a point loads are the reference's channels 256 to 383 of its batch row. -/
theorem load_2 (c : Dev nD) (t : Fin cfg0.N) (ht : t.val < 32) (r : Fin 2048) (k : Fin 128) :
    (View.ld (iblk m c 0 t) (Rect.unit ![0, 0, 256] ![1, 2048, 128] inb_S1x2048x512_S1x2048x128_0_0_256) : Vec Ideal S1x2048x128 .bf16) (ix3 0 r k)
      = m ((c : Thread nD τ).loc main_arg0) (ix3 ⟨t.val / 4, by omega⟩ r ⟨2 * 128 + k.val, by omega⟩) := by
  pointwise
  blk_ext [iblk, V, idx t]

/-- The channels of group 3 that a point loads are the reference's channels 384 to 511 of its batch row. -/
theorem load_3 (c : Dev nD) (t : Fin cfg0.N) (ht : t.val < 32) (r : Fin 2048) (k : Fin 128) :
    (View.ld (iblk m c 0 t) (Rect.unit ![0, 0, 384] ![1, 2048, 128] inb_S1x2048x512_S1x2048x128_0_0_384) : Vec Ideal S1x2048x128 .bf16) (ix3 0 r k)
      = m ((c : Thread nD τ).loc main_arg0) (ix3 ⟨t.val / 4, by omega⟩ r ⟨3 * 128 + k.val, by omega⟩) := by
  pointwise
  blk_ext [iblk, V, idx t]

set_option maxHeartbeats 2000000 in
/-- At a row's first point the stores fill the scratch with that row's transform along the channels. -/
theorem first (c : Dev nD) (t : Fin cfg0.N) (ht : t.val < 32) (h : t.val % 4 = 0) (y : S4096x512.Idx) :
    (outsAt0 m c t.val t.isLt).2 y = held (m ((c : Thread nD τ).loc main_arg0)) ⟨t.val / 4, by omega⟩ y := by
  rw [outsAt0_A m c t h]
  frame_out
  canon_tiles x hx
  · idx_vars x
    have e0 := hx0
    have e1 := hx1
    exact (store_right _ _ _ _ ⟨t.val / 4, by omega⟩ 3 (load_3 m c t ht) (chan_sin m c t) x0 x1).trans (held_lower _ _ _ x0 3 x1 (by simpa using e0) (by simpa using e1)).symm
  · idx_vars x
    have e0 := hx0
    have e1 := hx1
    exact (store_left _ _ _ _ ⟨t.val / 4, by omega⟩ 3 (load_3 m c t ht) (chan_cos m c t) x0 x1).trans (held_upper _ _ _ x0 3 x1 (by simpa using e0) (by simpa using e1)).symm
  · idx_vars x
    have e0 := hx0
    have e1 := hx1
    exact (store_right _ _ _ _ ⟨t.val / 4, by omega⟩ 2 (load_2 m c t ht) (chan_sin m c t) x0 x1).trans (held_lower _ _ _ x0 2 x1 (by simpa using e0) (by simpa using e1)).symm
  · idx_vars x
    have e0 := hx0
    have e1 := hx1
    exact (store_left _ _ _ _ ⟨t.val / 4, by omega⟩ 2 (load_2 m c t ht) (chan_cos m c t) x0 x1).trans (held_upper _ _ _ x0 2 x1 (by simpa using e0) (by simpa using e1)).symm
  · idx_vars x
    have e0 := hx0
    have e1 := hx1
    exact (store_right _ _ _ _ ⟨t.val / 4, by omega⟩ 1 (load_1 m c t ht) (chan_sin m c t) x0 x1).trans (held_lower _ _ _ x0 1 x1 (by simpa using e0) (by simpa using e1)).symm
  · idx_vars x
    have e0 := hx0
    have e1 := hx1
    exact (store_left _ _ _ _ ⟨t.val / 4, by omega⟩ 1 (load_1 m c t ht) (chan_cos m c t) x0 x1).trans (held_upper _ _ _ x0 1 x1 (by simpa using e0) (by simpa using e1)).symm
  · idx_vars x
    have e0 := hx0
    have e1 := hx1
    exact (store_right _ _ _ _ ⟨t.val / 4, by omega⟩ 0 (load_0 m c t ht) (chan_sin m c t) x0 x1).trans (held_lower _ _ _ x0 0 x1 (by simpa using e0) (by simpa using e1)).symm
  · idx_vars x
    have e0 := hx0
    have e1 := hx1
    exact (store_left _ _ _ _ ⟨t.val / 4, by omega⟩ 0 (load_0 m c t ht) (chan_cos m c t) x0 x1).trans (held_upper _ _ _ x0 0 x1 (by simpa using e0) (by simpa using e1)).symm

/-- At the row's other points the scratch is as the point before left it. -/
theorem later (c : Dev nD) (t : Fin cfg0.N) (h : ¬ t.val % 4 = 0) :
    (outsAt0 m c t.val t.isLt).2 = (outsAt0 m c (t.val - 1) (by omega)).2 := by
  rw [outsAt0_B m c t h]
  rfl

/-- At every point of a row the scratch holds the row's transform along the channels. -/
theorem scratch (c : Dev nD) : ∀ (n : ℕ) (hn : n < cfg0.N) (hb : n / 4 < 8), (outsAt0 m c n hn).2 = held (m ((c : Thread nD τ).loc main_arg0)) ⟨n / 4, hb⟩ := by
  intro n
  induction n with
  | zero => exact fun hn hb => funext fun y => first m c ⟨0, hn⟩ (Nat.zero_lt_succ _) (Nat.zero_mod _) y
  | succ n ih =>
    intro hn hb
    by_cases h : (n + 1) % 4 = 0
    · exact funext fun y => first m c ⟨n + 1, hn⟩ (by show n + 1 < 32; omega) h y
    · refine (later m c ⟨n + 1, hn⟩ h).trans ((ih (by omega) (by omega)).trans ?_)
      congr 2
      omega

set_option maxHeartbeats 1000000 in
/-- What a row's first point stores: the contraction of its table rows with what the scratch then holds. -/
theorem out_first (c : Dev nD) (t : Fin cfg0.N) (h : t.val % 4 = 0) (y : S1x512x512.Idx) :
    (outsAt0 m c t.val t.isLt).1 y = k0_pay7 (F := Ideal) (iblk m c 2 t) (outsAt0 m c t.val t.isLt).2 y := by
  rw [outsAt0_A m c t h]
  frame_out
  rw [View.readCov_eq_canon']
  refine congrArg (fun X => k0_pay7 (F := Ideal) (iblk m c 2 t) X y) (funext fun x => ?_)
  refine congrArg (View.canon _) ?_
  funext a
  apply Fin.ext
  fin_cases a <;> simp [LoadRect.idx, Rect.unit]

/-- What the row's other points store, likewise. -/
theorem out_later (c : Dev nD) (t : Fin cfg0.N) (h : ¬ t.val % 4 = 0) (y : S1x512x512.Idx) :
    (outsAt0 m c t.val t.isLt).1 y = k0_pay7 (F := Ideal) (iblk m c 2 t) (outsAt0 m c t.val t.isLt).2 y := by
  rw [later m c t h]
  rw [outsAt0_B m c t h]
  frame_out
  rw [read_unread_whole]

set_option maxHeartbeats 2000000 in
/-- The contraction over both halves at once is the reference's sum of two contractions, over the same root. -/
theorem mixed_at (P : Vec Ideal S512x4096 .bf16) (Z : Vec Ideal S4096x512 .bf16) (re im : FVec Ideal Cert.ReferenceFourierIdeal.S8x2048x4x128 .f32)
    (cosP sinP : FVec Ideal Cert.ReferenceFourierIdeal.S2048x2048 .f32) (b : Fin 8) (q : Fin 4)
    (hc : ∀ (r : Fin 512) (j : Fin 2048), P (ix2 r ⟨j, by omega⟩) = cosP (ix2 ⟨q.val * 512 + r.val, by omega⟩ j))
    (hs : ∀ (r : Fin 512) (j : Fin 2048), P (ix2 r ⟨2048 + j, by omega⟩) = -sinP (ix2 ⟨q.val * 512 + r.val, by omega⟩ j))
    (hr : ∀ (j : Fin 2048) (n : Fin 512), Z (ix2 ⟨j, by omega⟩ n) = re (ix4 b j ⟨n.val / 128, by omega⟩ ⟨n.val % 128, by omega⟩))
    (hi : ∀ (j : Fin 2048) (n : Fin 512), Z (ix2 ⟨2048 + j, by omega⟩ n) = im (ix4 b j ⟨n.val / 128, by omega⟩ ⟨n.val % 128, by omega⟩))
    (z : Fin 1) (r n : Fin 512) :
    k0_pay7 (F := Ideal) P Z (ix3 z r n) = mixed re im cosP sinP (ix3 b ⟨q.val * 512 + r.val, by omega⟩ n) := by
  pointwise [k0_pay7, mixed]
  have hsum : ∀ F : Fin 4096 → EReal, ∑ k, F k = ∑ j : Fin 2048, F ⟨j, by omega⟩ + ∑ j : Fin 2048, F ⟨2048 + j, by omega⟩ := fun F =>
    Fin.sum_univ_add (a := 2048) (b := 2048) F
  rw [hsum]
  simp only [hc, hs, hr, hi, neg_mul, mul_neg]
  have h512 : Ideal.ofBits .f32 0x44000000#32 = ((512 : ℝ) : EReal) := by
    simp [Ideal.ofBits, Ideal.ieee, -EReal.coe_mul]
    norm_num
  have hinv : Ideal.ofBits .f32 0x3B000000#32 = ((1 / 512 : ℝ) : EReal) := by
    simp [Ideal.ofBits, Ideal.ieee, -EReal.coe_mul]
    norm_num
  rw [h512, hinv, Ideal.div_coe (by norm_num)]
  simp only [mul_comm (cosP _), mul_comm (sinP _)]

/-- The block a point writes is the reference's result at the array index the block index sits at. -/
theorem point (c : Dev nD) (t : Fin cfg0.N) (y : S1x512x512.Idx) :
    (outsAt0 m c t.val t.isLt).1 y = fourier (m ((c : Thread nD τ).loc main_arg0)) (((cfg0.win 3).blk t).view.emb y) := by
  have ht : t.val < 32 := lt_of_lt_of_eq t.isLt N_0
  have e : (outsAt0 m c t.val t.isLt).1 y = k0_pay7 (F := Ideal) (iblk m c 2 t) (outsAt0 m c t.val t.isLt).2 y := by
    by_cases h : t.val % 4 = 0
    · exact out_first m c t h y
    · exact out_later m c t h y
  rw [e, scratch m c t.val t.isLt (by omega)]
  idx_vars y
  refine (mixed_at _ _ (along (m ((c : Thread nD τ).loc main_arg0)) (Host.cos turnC)) (along (m ((c : Thread nD τ).loc main_arg0)) (Host.sin turnC))
    (Host.cos turnP) (Host.sin turnP) ⟨t.val / 4, by omega⟩ ⟨t.val % 4, by omega⟩ (pos_cos m c t) (pos_sin m c t)
    (fun j n => held_upper _ _ _ _ _ _ rfl (by show n.val = n.val / 128 * 128 + n.val % 128; omega))
    (fun j n => held_lower _ _ _ _ _ _ rfl (by show n.val = n.val / 128 * 128 + n.val % 128; omega)) y0 y1 y2).trans ?_
  unfold fourier
  blk_ext [idx t]

/-- The result after the run is the reference's function of the argument. -/
theorem final (c : Dev nD) : (dats m 0 c).arrAt 3 (cfgs 0).N = fourier (m ((c : Thread nD τ).loc main_arg0)) := by
  refine (dats m 0 c).arrAt_eq_of_covers 3 _ (by decide +kernel) fun t _ y => ?_
  blk_simp
  rw [after0_3]
  exact point m c t y

end Cert.KernelFourierIdeal.RefValue

end
-- ==== Proof.FourierClaim.lean ====
/- The value claim of the Fourier mixing call, assembled: both runs, and the bridge from the result array to the reference's term. -/
module

public import proofs.«01_k».proof.Proof.FourierValue
public import proofs.«01_k».proof.Defs
public import Idealize.ShloMosaic.Lib.Claim

@[expose] public section

set_option maxRecDepth 16384

noncomputable section

open Idealize.ShloMosaic Idealize.ShloMosaic.TcCoe Idealize.SL.Sem

namespace Cert.Proof.Fourier

set_option maxHeartbeats 2000000 in
/-- From memories that agree on the arguments both programs end, with equal results. -/
theorem algebraic : Cert.algebraic_KernelFourierIdeal_ReferenceFourierIdeal := by
  pair_intro
  · run_from Cert.KernelFourierIdeal.Gen.run_main m g
  · run_from Cert.ReferenceFourierIdeal.Value.run m' g'
    refine (Cert.KernelFourierIdeal.RefValue.reference_eq m' c).trans ?_
    simp only [hagree c]
    exact (Cert.KernelFourierIdeal.RefValue.final m c).symm

end Cert.Proof.Fourier

end
-- ==== Proof.lean ====
/- The claims assembled: the frames of the seven calls (generated runs), the empty ledgers of their idealizations, and the
   seven value claims, each proved in a module of its own. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.KernelFfn.Frame
public import proofs.«01_k».proof.Proof.Gen.KernelFfnIdeal.Frame
public import proofs.«01_k».proof.Proof.Gen.ReferenceFfnIdeal
public import proofs.«01_k».proof.Proof.Gen.KernelMerge.Frame
public import proofs.«01_k».proof.Proof.Gen.KernelMergeIdeal.Frame
public import proofs.«01_k».proof.Proof.Gen.ReferenceMergeIdeal
public import proofs.«01_k».proof.Proof.Gen.KernelProj.Frame
public import proofs.«01_k».proof.Proof.Gen.KernelProjIdeal.Frame
public import proofs.«01_k».proof.Proof.Gen.ReferenceProjIdeal
public import proofs.«01_k».proof.Proof.Gen.KernelCtx.Frame
public import proofs.«01_k».proof.Proof.Gen.KernelCtxIdeal.Frame
public import proofs.«01_k».proof.Proof.Gen.ReferenceCtxIdeal
public import proofs.«01_k».proof.Proof.Gen.KernelAdaln.Frame
public import proofs.«01_k».proof.Proof.Gen.KernelAdalnIdeal.Frame
public import proofs.«01_k».proof.Proof.Gen.ReferenceAdalnIdeal
public import proofs.«01_k».proof.Proof.Gen.KernelFourier.Frame
public import proofs.«01_k».proof.Proof.Gen.KernelFourierIdeal.Frame
public import proofs.«01_k».proof.Proof.Gen.ReferenceFourierIdeal
public import proofs.«01_k».proof.Proof.AttnClaim
public import proofs.«01_k».proof.Proof.FfnClaim
public import proofs.«01_k».proof.Proof.MergeClaim
public import proofs.«01_k».proof.Proof.ProjClaim
public import proofs.«01_k».proof.Proof.CtxClaim
public import proofs.«01_k».proof.Proof.AdalnClaim
public import proofs.«01_k».proof.Proof.FourierClaim
public import proofs.«01_k».proof.Proof.Gen.ReferenceIdeal.Run
public import proofs.«01_k».proof.Proof.Gen.ReferenceFfnIdeal.Run
public import proofs.«01_k».proof.Proof.Gen.ReferenceMergeIdeal.Run
public import proofs.«01_k».proof.Proof.Gen.ReferenceProjIdeal.Run
public import proofs.«01_k».proof.Proof.Gen.ReferenceCtxIdeal.Run
public import proofs.«01_k».proof.Proof.Gen.ReferenceAdalnIdeal.Run
public import proofs.«01_k».proof.Proof.Gen.ReferenceFourierIdeal.Run
public import Idealize.ShloMosaic.Lib.Claim

@[expose] public section

noncomputable section

namespace Cert.Proof

open Idealize.ShloMosaic Idealize.SL.Sem

/-- Kernel: it ends, its arguments unchanged and its counters at zero. -/
theorem quiescent_Kernel : Cert.quiescent_Kernel := fun m ρ _ => Cert.Kernel.Gen.frame m ρ
/-- KernelIdeal: it ends, its arguments unchanged and its counters at zero. -/
theorem quiescent_KernelIdeal : Cert.quiescent_KernelIdeal := fun m ρ _ => Cert.KernelIdeal.Gen.frame m ρ
/-- KernelIdeal: it ends, its arguments unchanged and its counters at zero. -/
theorem quiescent_KernelIdeal_pre_qk_finite : Cert.quiescent_KernelIdeal_pre_qk_finite := fun m ρ _ => Cert.KernelIdeal.Gen.frame m ρ
/-- ReferenceIdeal: it ends, its arguments unchanged and its counters at zero. -/
theorem quiescent_ReferenceIdeal : Cert.quiescent_ReferenceIdeal := by
  intro m ρ _
  run_from Cert.ReferenceIdeal.Value.run m ρ
  all_goals first | exact sem_eq_zero_of_no_sems (by decide) _ | simp
/-- ReferenceIdeal: it ends, its arguments unchanged and its counters at zero. -/
theorem quiescent_ReferenceIdeal_pre_qk_finite : Cert.quiescent_ReferenceIdeal_pre_qk_finite := by
  intro m ρ _
  run_from Cert.ReferenceIdeal.Value.run m ρ
  all_goals first | exact sem_eq_zero_of_no_sems (by decide) _ | simp
/-- KernelFfn: it ends, its arguments unchanged and its counters at zero. -/
theorem quiescent_KernelFfn : Cert.quiescent_KernelFfn := fun m ρ _ => Cert.KernelFfn.Gen.frame m ρ
/-- KernelFfnIdeal: it ends, its arguments unchanged and its counters at zero. -/
theorem quiescent_KernelFfnIdeal : Cert.quiescent_KernelFfnIdeal := fun m ρ _ => Cert.KernelFfnIdeal.Gen.frame m ρ
/-- ReferenceFfnIdeal: it ends, its arguments unchanged and its counters at zero. -/
theorem quiescent_ReferenceFfnIdeal : Cert.quiescent_ReferenceFfnIdeal := by
  intro m ρ _
  run_from Cert.ReferenceFfnIdeal.Value.run m ρ
  all_goals first | exact sem_eq_zero_of_no_sems (by decide) _ | simp
/-- KernelMerge: it ends, its arguments unchanged and its counters at zero. -/
theorem quiescent_KernelMerge : Cert.quiescent_KernelMerge := fun m ρ _ => Cert.KernelMerge.Gen.frame m ρ
/-- KernelMergeIdeal: it ends, its arguments unchanged and its counters at zero. -/
theorem quiescent_KernelMergeIdeal : Cert.quiescent_KernelMergeIdeal := fun m ρ _ => Cert.KernelMergeIdeal.Gen.frame m ρ
/-- ReferenceMergeIdeal: it ends, its arguments unchanged and its counters at zero. -/
theorem quiescent_ReferenceMergeIdeal : Cert.quiescent_ReferenceMergeIdeal := by
  intro m ρ _
  run_from Cert.ReferenceMergeIdeal.Value.run m ρ
  all_goals first | exact sem_eq_zero_of_no_sems (by decide) _ | simp
/-- KernelProj: it ends, its arguments unchanged and its counters at zero. -/
theorem quiescent_KernelProj : Cert.quiescent_KernelProj := fun m ρ _ => Cert.KernelProj.Gen.frame m ρ
/-- KernelProjIdeal: it ends, its arguments unchanged and its counters at zero. -/
theorem quiescent_KernelProjIdeal : Cert.quiescent_KernelProjIdeal := fun m ρ _ => Cert.KernelProjIdeal.Gen.frame m ρ
/-- ReferenceProjIdeal: it ends, its arguments unchanged and its counters at zero. -/
theorem quiescent_ReferenceProjIdeal : Cert.quiescent_ReferenceProjIdeal := by
  intro m ρ _
  run_from Cert.ReferenceProjIdeal.Value.run m ρ
  all_goals first | exact sem_eq_zero_of_no_sems (by decide) _ | simp
/-- KernelCtx: it ends, its arguments unchanged and its counters at zero. -/
theorem quiescent_KernelCtx : Cert.quiescent_KernelCtx := fun m ρ _ => Cert.KernelCtx.Gen.frame m ρ
/-- KernelCtxIdeal: it ends, its arguments unchanged and its counters at zero. -/
theorem quiescent_KernelCtxIdeal : Cert.quiescent_KernelCtxIdeal := fun m ρ _ => Cert.KernelCtxIdeal.Gen.frame m ρ
/-- ReferenceCtxIdeal: it ends, its arguments unchanged and its counters at zero. -/
theorem quiescent_ReferenceCtxIdeal : Cert.quiescent_ReferenceCtxIdeal := by
  intro m ρ _
  run_from Cert.ReferenceCtxIdeal.Value.run m ρ
  all_goals first | exact sem_eq_zero_of_no_sems (by decide) _ | simp
/-- KernelAdaln: it ends, its arguments unchanged and its counters at zero. -/
theorem quiescent_KernelAdaln : Cert.quiescent_KernelAdaln := fun m ρ _ => Cert.KernelAdaln.Gen.frame m ρ
/-- KernelAdalnIdeal: it ends, its arguments unchanged and its counters at zero. -/
theorem quiescent_KernelAdalnIdeal : Cert.quiescent_KernelAdalnIdeal := fun m ρ _ => Cert.KernelAdalnIdeal.Gen.frame m ρ
/-- ReferenceAdalnIdeal: it ends, its arguments unchanged and its counters at zero. -/
theorem quiescent_ReferenceAdalnIdeal : Cert.quiescent_ReferenceAdalnIdeal := by
  intro m ρ _
  run_from Cert.ReferenceAdalnIdeal.Value.run m ρ
  all_goals first | exact sem_eq_zero_of_no_sems (by decide) _ | simp
/-- KernelFourier: it ends, its arguments unchanged and its counters at zero. -/
theorem quiescent_KernelFourier : Cert.quiescent_KernelFourier := fun m ρ _ => Cert.KernelFourier.Gen.frame m ρ
/-- KernelFourierIdeal: it ends, its arguments unchanged and its counters at zero. -/
theorem quiescent_KernelFourierIdeal : Cert.quiescent_KernelFourierIdeal := fun m ρ _ => Cert.KernelFourierIdeal.Gen.frame m ρ
/-- ReferenceFourierIdeal: it ends, its arguments unchanged and its counters at zero. -/
theorem quiescent_ReferenceFourierIdeal : Cert.quiescent_ReferenceFourierIdeal := by
  intro m ρ _
  run_from Cert.ReferenceFourierIdeal.Value.run m ρ
  all_goals first | exact sem_eq_zero_of_no_sems (by decide) _ | simp
/-- The idealization rewrote nothing. -/
theorem preserves_Kernel_KernelIdeal : Cert.preserves_Kernel_KernelIdeal := trivial
/-- Kernel and reference are one function over the extended reals. -/
theorem algebraic_KernelIdeal_ReferenceIdeal_pre_qk_finite : Cert.algebraic_KernelIdeal_ReferenceIdeal_pre_qk_finite := Cert.Proof.Attn.algebraic
/-- The idealization rewrote nothing. -/
theorem preserves_KernelFfn_KernelFfnIdeal : Cert.preserves_KernelFfn_KernelFfnIdeal := trivial
/-- Kernel and reference are one function over the extended reals. -/
theorem algebraic_KernelFfnIdeal_ReferenceFfnIdeal : Cert.algebraic_KernelFfnIdeal_ReferenceFfnIdeal := Cert.Proof.Ffn.algebraic
/-- The idealization rewrote nothing. -/
theorem preserves_KernelMerge_KernelMergeIdeal : Cert.preserves_KernelMerge_KernelMergeIdeal := trivial
/-- Kernel and reference are one function over the extended reals. -/
theorem algebraic_KernelMergeIdeal_ReferenceMergeIdeal : Cert.algebraic_KernelMergeIdeal_ReferenceMergeIdeal := Cert.Proof.Merge.algebraic
/-- The idealization rewrote nothing. -/
theorem preserves_KernelProj_KernelProjIdeal : Cert.preserves_KernelProj_KernelProjIdeal := trivial
/-- Kernel and reference are one function over the extended reals. -/
theorem algebraic_KernelProjIdeal_ReferenceProjIdeal : Cert.algebraic_KernelProjIdeal_ReferenceProjIdeal := Cert.Proof.Proj.algebraic
/-- The idealization rewrote nothing. -/
theorem preserves_KernelCtx_KernelCtxIdeal : Cert.preserves_KernelCtx_KernelCtxIdeal := trivial
/-- Kernel and reference are one function over the extended reals. -/
theorem algebraic_KernelCtxIdeal_ReferenceCtxIdeal : Cert.algebraic_KernelCtxIdeal_ReferenceCtxIdeal := Cert.Proof.Ctx.algebraic
/-- The idealization rewrote nothing. -/
theorem preserves_KernelAdaln_KernelAdalnIdeal : Cert.preserves_KernelAdaln_KernelAdalnIdeal := trivial
/-- Kernel and reference are one function over the extended reals. -/
theorem algebraic_KernelAdalnIdeal_ReferenceAdalnIdeal : Cert.algebraic_KernelAdalnIdeal_ReferenceAdalnIdeal := Cert.Proof.Adaln.algebraic
/-- The idealization rewrote nothing. -/
theorem preserves_KernelFourier_KernelFourierIdeal : Cert.preserves_KernelFourier_KernelFourierIdeal := trivial
/-- Kernel and reference are one function over the extended reals. -/
theorem algebraic_KernelFourierIdeal_ReferenceFourierIdeal : Cert.algebraic_KernelFourierIdeal_ReferenceFourierIdeal := Cert.Proof.Fourier.algebraic

theorem claim : Cert.Claim := ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelMerge.Gen.facts, Cert.KernelMergeIdeal.Gen.facts, Cert.ReferenceMergeIdeal.Gen.facts, Cert.KernelProj.Gen.facts, Cert.KernelProjIdeal.Gen.facts, Cert.ReferenceProjIdeal.Gen.facts, Cert.KernelCtx.Gen.facts, Cert.KernelCtxIdeal.Gen.facts, Cert.ReferenceCtxIdeal.Gen.facts, Cert.KernelAdaln.Gen.facts, Cert.KernelAdalnIdeal.Gen.facts, Cert.ReferenceAdalnIdeal.Gen.facts, Cert.KernelFourier.Gen.facts, Cert.KernelFourierIdeal.Gen.facts, Cert.ReferenceFourierIdeal.Gen.facts, Cert.Proof.Attn.pre_facts, quiescent_Kernel, quiescent_KernelIdeal, quiescent_KernelIdeal_pre_qk_finite, quiescent_ReferenceIdeal, quiescent_ReferenceIdeal_pre_qk_finite, quiescent_KernelFfn, quiescent_KernelFfnIdeal, quiescent_ReferenceFfnIdeal, quiescent_KernelMerge, quiescent_KernelMergeIdeal, quiescent_ReferenceMergeIdeal, quiescent_KernelProj, quiescent_KernelProjIdeal, quiescent_ReferenceProjIdeal, quiescent_KernelCtx, quiescent_KernelCtxIdeal, quiescent_ReferenceCtxIdeal, quiescent_KernelAdaln, quiescent_KernelAdalnIdeal, quiescent_ReferenceAdalnIdeal, quiescent_KernelFourier, quiescent_KernelFourierIdeal, quiescent_ReferenceFourierIdeal, preserves_Kernel_KernelIdeal, algebraic_KernelIdeal_ReferenceIdeal_pre_qk_finite, preserves_KernelFfn_KernelFfnIdeal, algebraic_KernelFfnIdeal_ReferenceFfnIdeal, preserves_KernelMerge_KernelMergeIdeal, algebraic_KernelMergeIdeal_ReferenceMergeIdeal, preserves_KernelProj_KernelProjIdeal, algebraic_KernelProjIdeal_ReferenceProjIdeal, preserves_KernelCtx_KernelCtxIdeal, algebraic_KernelCtxIdeal_ReferenceCtxIdeal, preserves_KernelAdaln_KernelAdalnIdeal, algebraic_KernelAdalnIdeal_ReferenceAdalnIdeal, preserves_KernelFourier_KernelFourierIdeal, algebraic_KernelFourierIdeal_ReferenceFourierIdeal⟩

end Cert.Proof

end
